-- ==== Defs.lean ====
def Pre_Kernel [hPre_onset_in_range : Cert.Pre_onset_in_range.Facts] (m : (ℓ : Loc Cert.Kernel.nD Cert.Kernel.τ Cert.Kernel.sig) → Buf (Elt Bits) ℓ) : Prop :=
  ∀ c : Dev Cert.Kernel.nD,
    (Cert.Pre_onset_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_onset_in_range : Cert.Pre_onset_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_onset_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_onset_in_range [hPre_onset_in_range : Cert.Pre_onset_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_onset_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_onset_in_range : Cert.Pre_onset_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_onset_in_range : Cert.Pre_onset_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_onset_in_range [hReferenceIdeal : Cert.ReferenceIdeal.Facts] [hPre_onset_in_range : Cert.Pre_onset_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_onset_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_onset_in_range : Cert.Pre_onset_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_onset_in_range : Cert.Pre_onset_in_range.Facts),
    quiescent_Kernel (hKernel := hKernel) (hPre_onset_in_range := hPre_onset_in_range)
    ∧ quiescent_KernelIdeal (hKernelIdeal := hKernelIdeal) (hPre_onset_in_range := hPre_onset_in_range)
    ∧ quiescent_ReferenceIdeal (hReferenceIdeal := hReferenceIdeal)
    ∧ quiescent_ReferenceIdeal_pre_onset_in_range (hReferenceIdeal := hReferenceIdeal) (hPre_onset_in_range := hPre_onset_in_range)
    ∧ preserves_Kernel_KernelIdeal
    ∧ algebraic_KernelIdeal_ReferenceIdeal (hKernelIdeal := hKernelIdeal) (hReferenceIdeal := hReferenceIdeal) (hPre_onset_in_range := hPre_onset_in_range)
-- ==== Pre_onset_in_range.lean ====
abbrev S128x22x12000 : Shape := ⟨3, ![128, 22, 12000]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S128x22x12000 .f32) (main_arg1 : FVec F S128 .f32) (main_arg2 : FVec F S128 .f32) : IVec S_ 1 :=
  let main_v0 : FVec F S128 .f32 := subf main_arg1 main_arg2
  let main_cst : FVec F S_ .f32 := constant S_ .f32 0x43480000#32
  let main_v1 : FVec F S128 .f32 := broadcastInDim S128 ![] bcast_S_S128 main_cst
  let main_v2 : FVec F S128 .f32 := mulf main_v0 main_v1
  let main_v3 : IVec S128 32 := fptosi 32 main_v2
  let main_c : IVec S_ 32 := constantI S_ 32 4294967096#32
  let main_v4 : IVec S128 32 := broadcastInDim S128 ![] bcast_S_S128 main_c
  let main_v5 : IVec S128 1 := cmpi .sgt main_v3 main_v4
  let main_c_0 : IVec S_ 32 := constantI S_ 32 200#32
  let main_v6 : IVec S128 32 := broadcastInDim S128 ![] bcast_S_S128 main_c_0
  let main_v7 : IVec S128 1 := cmpi .slt main_v3 main_v6
  let main_v8 : IVec S128 1 := andi main_v5 main_v7
  let main_c_1 : IVec S_ 1 := constantI S_ 1 1#1
  let main_v9 : IVec S_ 1 := (fun x v => Host.reduce IntOp.andi x v reducesTo_S128_S_d0 h_S_) main_v8 main_c_1
  main_v9
-- ==== Kernel.lean ====
abbrev S128x22x12000 : Shape := ⟨3, ![128, 22, 12000]⟩
abbrev S128 : Shape := ⟨1, ![128]⟩
abbrev S128x22x1416 : Shape := ⟨3, ![128, 22, 1416]⟩
abbrev S3987456 : Shape := ⟨1, ![3987456]⟩
abbrev S7864320 : Shape := ⟨1, ![7864320]⟩
abbrev S62304 : Shape := ⟨1, ![62304]⟩
abbrev S61440 : Shape := ⟨1, ![61440]⟩
abbrev S16 : Shape := ⟨1, ![16]⟩
abbrev S_ : Shape := ⟨0, ![]⟩
abbrev S31152 : Shape := ⟨1, ![31152]⟩
abbrev S30720 : Shape := ⟨1, ![30720]⟩
abbrev S128x20x24x128 : Shape := ⟨4, ![128, 20, 24, 128]⟩
abbrev S128x20x22x100 : Shape := ⟨4, ![128, 20, 22, 100]⟩
abbrev S20 : Shape := ⟨1, ![20]⟩
abbrev S1x20 : Shape := ⟨2, ![1, 20]⟩
abbrev S128x20 : Shape := ⟨2, ![128, 20]⟩

abbrev nBuf : Table → Nat
  | .hbm => 22
  | .local .scVector .vmem => 5
  | _ => 0

abbrev bufTy : (tb : Table) → Fin (nBuf tb) → BufTy
  | .hbm, ⟨0, _⟩ => ⟨S128x22x12000, .f32⟩
  | .hbm, ⟨1, _⟩ => ⟨S128, .f32⟩
  | .hbm, ⟨2, _⟩ => ⟨S128, .f32⟩
  | .hbm, ⟨3, _⟩ => ⟨S128x22x1416, .f32⟩
  | .hbm, ⟨4, _⟩ => ⟨S3987456, .f32⟩
  | .hbm, ⟨5, _⟩ => ⟨S7864320, .f32⟩
  | .hbm, ⟨6, _⟩ => ⟨S128, .i32⟩
  | .hbm, ⟨7, _⟩ => ⟨S128x20x24x128, .f32⟩
  | .hbm, ⟨8, _⟩ => ⟨S128x20x22x100, .f32⟩
  | .hbm, ⟨9, _⟩ => ⟨S20, .i32⟩
  | .hbm, ⟨10, _⟩ => ⟨S_, .i32⟩
  | .hbm, ⟨11, _⟩ => ⟨S20, .i32⟩
  | .hbm, ⟨12, _⟩ => ⟨S20, .i32⟩
  | .hbm, ⟨13, _⟩ => ⟨S_, .i32⟩
  | .hbm, ⟨14, _⟩ => ⟨S20, .i32⟩
  | .hbm, ⟨15, _⟩ => ⟨S20, .i32⟩
  | .hbm, ⟨16, _⟩ => ⟨S20, .f32⟩
  | .hbm, ⟨17, _⟩ => ⟨S_, .f32⟩
  | .hbm, ⟨18, _⟩ => ⟨S20, .f32⟩
  | .hbm, ⟨19, _⟩ => ⟨S20, .f32⟩
  | .hbm, ⟨20, _⟩ => ⟨S1x20, .f32⟩
  | .hbm, ⟨21, _⟩ => ⟨S128x20, .f32⟩
  | .local .scVector .vmem, ⟨0, _⟩ => ⟨S62304, .f32⟩
  | .local .scVector .vmem, ⟨1, _⟩ => ⟨S61440, .f32⟩
  | .local .scVector .vmem, ⟨2, _⟩ => ⟨S16, .f32⟩
  | .local .scVector .vmem, ⟨3, _⟩ => ⟨S16, .f32⟩
  | .local .scVector .vmem, ⟨4, _⟩ => ⟨S16, .i32⟩
  | _, _ => ⟨S128x22x12000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v1_scv : Ref sig .scVector := ⟨.hbm, 4, rfl⟩
abbrev main_arg1_scv : Ref sig .scVector := ⟨.hbm, 1, rfl⟩
abbrev main_arg2_scv : Ref sig .scVector := ⟨.hbm, 2, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32 : BitVec 32 := 16#32
  let v30 : BitVec 32 := Scalar.muli v18 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.muli v28 c4_i32_10
  let v31 : BitVec 32 := Scalar.addi v30 v29
  let c0_i32_11 : BitVec 32 := 0#32
  let v32 : BitVec 32 := Scalar.addi v31 c0_i32_11
  let c31152_i32 : BitVec 32 := 31152#32
  let v33 : BitVec 32 := Scalar.muli v32 c31152_i32
  ![v33.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32_14 : BitVec 32 := 16#32
  let v38 : BitVec 32 := Scalar.muli v18 c16_i32_14
  ![v38.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_58 : BitVec 32 := 4#32
  let c0_i32_59 : BitVec 32 := 0#32
  let v228 : BitVec 1 := Scalar.cmpi .eq c4_i32_58 c0_i32_59
  let c1_i32_60 : BitVec 32 := 1#32
  let v229 : BitVec 32 := Scalar.select v228 c1_i32_60 c4_i32_58
  let v230 : BitVec 32 := Scalar.remsi v1 v229
  let c0_i32_62 : BitVec 32 := 0#32
  let v232 : BitVec 1 := Scalar.cmpi .slt v230 c0_i32_62
  let c0_i32_63 : BitVec 32 := 0#32
  let v233 : BitVec 1 := Scalar.cmpi .slt v229 c0_i32_63
  let v234 : BitVec 1 := Scalar.xori v232 v233
  let c0_i32_61 : BitVec 32 := 0#32
  let v231 : BitVec 1 := Scalar.cmpi .ne v230 c0_i32_61
  let v235 : BitVec 1 := Scalar.andi v234 v231
  let v236 : BitVec 32 := Scalar.addi v230 v229
  let v237 : BitVec 32 := Scalar.select v235 v236 v230
  let c0_i32_64 : BitVec 32 := 0#32
  let v238 : BitVec 1 := Scalar.cmpi .eq v237 c0_i32_64
  let v239 : BitVec 32 := Scalar.extui v238
  let c0_i32_65 : BitVec 32 := 0#32
  let v240 : BitVec 1 := Scalar.cmpi .ne v239 c0_i32_65
  v240

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32_84 : BitVec 32 := 16#32
  let v253 : BitVec 32 := Scalar.muli v18 c16_i32_84
  ![v253.toNat]
@[reducible] def k0_t1_loop : Scf.Loop 32 :=
  let c0_i32_67 : BitVec 32 := 0#32
  let c1344_i32 : BitVec 32 := 1344#32
  let v242 : BitVec 32 := Scalar.addi c0_i32_67 c1344_i32
  let c1_i32_68 : BitVec 32 := 1#32
  ⟨c0_i32_67, v242, c1_i32_68⟩
def k0_off4 (k0_t1 : Fin k0_t1_loop.trips) : Fin 1 → Nat :=
  let c0_i32_84 : BitVec 32 := 0#32
  let c0_i32_67 : BitVec 32 := 0#32
  let c1_i32_68 : BitVec 32 := 1#32
  let arg15 : BitVec 32 := Scf.iv c0_i32_67 c1_i32_68 k0_t1
  let c1_i32_83 : BitVec 32 := 1#32
  let v252 : BitVec 32 := Scalar.muli arg15 c1_i32_83
  let v253 : BitVec 32 := Scalar.addi c0_i32_84 v252
  let c16_i32_85 : BitVec 32 := 16#32
  let v254 : BitVec 32 := Scalar.muli v253 c16_i32_85
  let v255 : Index := Scalar.indexCast v254
  ![v255.toNat]
@[reducible] def k0_t2_loop : Scf.Loop 32 :=
  let c0_i32_71 : BitVec 32 := 0#32
  let c4_i32_72 : BitVec 32 := 4#32
  let v243 : BitVec 32 := Scalar.addi c0_i32_71 c4_i32_72
  let c1_i32_73 : BitVec 32 := 1#32
  ⟨c0_i32_71, v243, c1_i32_73⟩
def k0_cond2 (k0_t2 : Fin k0_t2_loop.trips) : BitVec 1 :=
  let c0_i32_71 : BitVec 32 := 0#32
  let c1_i32_73 : BitVec 32 := 1#32
  let arg15 : BitVec 32 := Scf.iv c0_i32_71 c1_i32_73 k0_t2
  let c1_i32_87 : BitVec 32 := 1#32
  let v256 : BitVec 32 := Scalar.addi arg15 c1_i32_87
  let c4_i32_88 : BitVec 32 := 4#32
  let v257 : BitVec 1 := Scalar.cmpi .slt v256 c4_i32_88
  let v258 : BitVec 32 := Scalar.extui v257
  let c0_i32_89 : BitVec 32 := 0#32
  let v259 : BitVec 1 := Scalar.cmpi .ne v258 c0_i32_89
  v259

def k0_off5 (k0_t2 : Fin k0_t2_loop.trips) : Fin 1 → Nat :=
  let c0_i32_71 : BitVec 32 := 0#32
  let c1_i32_73 : BitVec 32 := 1#32
  let arg15 : BitVec 32 := Scf.iv c0_i32_71 c1_i32_73 k0_t2
  let c1_i32_112 : BitVec 32 := 1#32
  let v298 : BitVec 32 := Scalar.addi arg15 c1_i32_112
  let c2_i32_114 : BitVec 32 := 2#32
  let c0_i32_115 : BitVec 32 := 0#32
  let v301 : BitVec 1 := Scalar.cmpi .eq c2_i32_114 c0_i32_115
  let c1_i32_116 : BitVec 32 := 1#32
  let v302 : BitVec 32 := Scalar.select v301 c1_i32_116 c2_i32_114
  let v303 : BitVec 32 := Scalar.remsi v298 v302
  let c0_i32_118 : BitVec 32 := 0#32
  let v305 : BitVec 1 := Scalar.cmpi .slt v303 c0_i32_118
  let c0_i32_119 : BitVec 32 := 0#32
  let v306 : BitVec 1 := Scalar.cmpi .slt v302 c0_i32_119
  let v307 : BitVec 1 := Scalar.xori v305 v306
  let c0_i32_117 : BitVec 32 := 0#32
  let v304 : BitVec 1 := Scalar.cmpi .ne v303 c0_i32_117
  let v308 : BitVec 1 := Scalar.andi v307 v304
  let v309 : BitVec 32 := Scalar.addi v303 v302
  let v310 : BitVec 32 := Scalar.select v308 v309 v303
  let c31152_i32_120 : BitVec 32 := 31152#32
  let v311 : BitVec 32 := Scalar.muli v310 c31152_i32_120
  ![v311.toNat]
def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32 : BitVec 32 := 16#32
  let v30 : BitVec 32 := Scalar.muli v18 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.muli v28 c4_i32_10
  let v31 : BitVec 32 := Scalar.addi v30 v29
  let c0_i32_71 : BitVec 32 := 0#32
  let c1_i32_73 : BitVec 32 := 1#32
  let arg15 : BitVec 32 := Scf.iv c0_i32_71 c1_i32_73 k0_t2
  let c1_i32_112 : BitVec 32 := 1#32
  let v298 : BitVec 32 := Scalar.addi arg15 c1_i32_112
  let v299 : BitVec 32 := Scalar.addi v31 v298
  let c31152_i32_113 : BitVec 32 := 31152#32
  let v300 : BitVec 32 := Scalar.muli v299 c31152_i32_113
  ![v300.toNat]
@[reducible] def k0_t3_loop : Scf.Loop 32 :=
  let c7_i32 : BitVec 32 := 7#32
  let c3_i32 : BitVec 32 := 3#32
  let v280 : BitVec 32 := Scalar.addi c7_i32 c3_i32
  let c1_i32_99 : BitVec 32 := 1#32
  ⟨c7_i32, v280, c1_i32_99⟩
@[reducible] def k0_t4_loop : Scf.Loop 32 :=
  let c0_i32_118 : BitVec 32 := 0#32
  let c22_i32 : BitVec 32 := 22#32
  let v308 : BitVec 32 := Scalar.addi c0_i32_118 c22_i32
  let c1_i32_119 : BitVec 32 := 1#32
  ⟨c0_i32_118, v308, c1_i32_119⟩
def k0_off7 (k0_t2 : Fin k0_t2_loop.trips) (v266 : BitVec 32) (k0_t3 : Fin k0_t3_loop.trips) (k0_t4 : Fin k0_t4_loop.trips) (c0_i32_123 : BitVec 32) : Fin 1 → Nat :=
  let c0_i32_71 : BitVec 32 := 0#32
  let c1_i32_73 : BitVec 32 := 1#32
  let arg15 : BitVec 32 := Scf.iv c0_i32_71 c1_i32_73 k0_t2
  let c2_i32_90 : BitVec 32 := 2#32
  let c0_i32_91 : BitVec 32 := 0#32
  let v267 : BitVec 1 := Scalar.cmpi .eq c2_i32_90 c0_i32_91
  let c1_i32_92 : BitVec 32 := 1#32
  let v268 : BitVec 32 := Scalar.select v267 c1_i32_92 c2_i32_90
  let v269 : BitVec 32 := Scalar.remsi arg15 v268
  let c0_i32_94 : BitVec 32 := 0#32
  let v271 : BitVec 1 := Scalar.cmpi .slt v269 c0_i32_94
  let c0_i32_95 : BitVec 32 := 0#32
  let v272 : BitVec 1 := Scalar.cmpi .slt v268 c0_i32_95
  let v273 : BitVec 1 := Scalar.xori v271 v272
  let c0_i32_93 : BitVec 32 := 0#32
  let v270 : BitVec 1 := Scalar.cmpi .ne v269 c0_i32_93
  let v274 : BitVec 1 := Scalar.andi v273 v270
  let v275 : BitVec 32 := Scalar.addi v269 v268
  let v276 : BitVec 32 := Scalar.select v274 v275 v269
  let c31152_i32_117 : BitVec 32 := 31152#32
  let v307 : BitVec 32 := Scalar.muli v276 c31152_i32_117
  let c0_i32_122 : BitVec 32 := 0#32
  let c0_i32_118 : BitVec 32 := 0#32
  let c1_i32_119 : BitVec 32 := 1#32
  let arg17 : BitVec 32 := Scf.iv c0_i32_118 c1_i32_119 k0_t4
  let c1_i32_121 : BitVec 32 := 1#32
  let v309 : BitVec 32 := Scalar.muli arg17 c1_i32_121
  let v310 : BitVec 32 := Scalar.addi c0_i32_122 v309
  let c1416_i32 : BitVec 32 := 1416#32
  let v311 : BitVec 32 := Scalar.muli v310 c1416_i32
  let v312 : BitVec 32 := Scalar.addi v307 v311
  let c7_i32 : BitVec 32 := 7#32
  let c1_i32_99 : BitVec 32 := 1#32
  let arg16 : BitVec 32 := Scf.iv c7_i32 c1_i32_99 k0_t3
  let c8_i32 : BitVec 32 := 8#32
  let v298 : BitVec 32 := Scalar.subi arg16 c8_i32
  let c100_i32_112 : BitVec 32 := 100#32
  let v299 : BitVec 32 := Scalar.muli v298 c100_i32_112
  let v300 : BitVec 32 := Scalar.addi v266 v299
  let v313 : BitVec 32 := Scalar.addi v312 v300
  let v317 : BitVec 32 := Scalar.addi v313 c0_i32_123
  let v318 : Index := Scalar.indexCast v317
  ![v318.toNat]
def k0_cond4 (v266 : BitVec 32) (k0_t3 : Fin k0_t3_loop.trips) : BitVec 1 :=
  let c7_i32 : BitVec 32 := 7#32
  let c1_i32_99 : BitVec 32 := 1#32
  let arg16 : BitVec 32 := Scf.iv c7_i32 c1_i32_99 k0_t3
  let c8_i32 : BitVec 32 := 8#32
  let v298 : BitVec 32 := Scalar.subi arg16 c8_i32
  let c100_i32_112 : BitVec 32 := 100#32
  let v299 : BitVec 32 := Scalar.muli v298 c100_i32_112
  let v300 : BitVec 32 := Scalar.addi v266 v299
  let c0_i32_113 : BitVec 32 := 0#32
  let v301 : BitVec 1 := Scalar.cmpi .sge v300 c0_i32_113
  let v302 : BitVec 32 := Scalar.extui v301
  let c0_i32_114 : BitVec 32 := 0#32
  let v303 : BitVec 1 := Scalar.cmpi .ne v302 c0_i32_114
  v303

def k0_off8 (k0_t3 : Fin k0_t3_loop.trips) (k0_t4 : Fin k0_t4_loop.trips) (c0_i32_124 : BitVec 32) : Fin 1 → Nat :=
  let c7_i32 : BitVec 32 := 7#32
  let c1_i32_99 : BitVec 32 := 1#32
  let arg16 : BitVec 32 := Scf.iv c7_i32 c1_i32_99 k0_t3
  let c24_i32 : BitVec 32 := 24#32
  let v314 : BitVec 32 := Scalar.muli arg16 c24_i32
  let c0_i32_122 : BitVec 32 := 0#32
  let c0_i32_118 : BitVec 32 := 0#32
  let c1_i32_119 : BitVec 32 := 1#32
  let arg17 : BitVec 32 := Scf.iv c0_i32_118 c1_i32_119 k0_t4
  let c1_i32_121 : BitVec 32 := 1#32
  let v309 : BitVec 32 := Scalar.muli arg17 c1_i32_121
  let v310 : BitVec 32 := Scalar.addi c0_i32_122 v309
  let v315 : BitVec 32 := Scalar.addi v314 v310
  let c128_i32 : BitVec 32 := 128#32
  let v316 : BitVec 32 := Scalar.muli v315 c128_i32
  let v320 : BitVec 32 := Scalar.addi v316 c0_i32_124
  let v321 : Index := Scalar.indexCast v320
  ![v321.toNat]
@[reducible] def k0_t5_loop : Scf.Loop 32 :=
  let c0_i32_117 : BitVec 32 := 0#32
  let c22_i32 : BitVec 32 := 22#32
  let v307 : BitVec 32 := Scalar.addi c0_i32_117 c22_i32
  let c1_i32_118 : BitVec 32 := 1#32
  ⟨c0_i32_117, v307, c1_i32_118⟩
def k0_off9 (k0_t3 : Fin k0_t3_loop.trips) (k0_t5 : Fin k0_t5_loop.trips) (c0_i32_122 : BitVec 32) : Fin 1 → Nat :=
  let c7_i32 : BitVec 32 := 7#32
  let c1_i32_99 : BitVec 32 := 1#32
  let arg16 : BitVec 32 := Scf.iv c7_i32 c1_i32_99 k0_t3
  let c24_i32 : BitVec 32 := 24#32
  let v310 : BitVec 32 := Scalar.muli arg16 c24_i32
  let c0_i32_121 : BitVec 32 := 0#32
  let c0_i32_117 : BitVec 32 := 0#32
  let c1_i32_118 : BitVec 32 := 1#32
  let arg17 : BitVec 32 := Scf.iv c0_i32_117 c1_i32_118 k0_t5
  let c1_i32_120 : BitVec 32 := 1#32
  let v308 : BitVec 32 := Scalar.muli arg17 c1_i32_120
  let v309 : BitVec 32 := Scalar.addi c0_i32_121 v308
  let v311 : BitVec 32 := Scalar.addi v310 v309
  let c128_i32 : BitVec 32 := 128#32
  let v312 : BitVec 32 := Scalar.muli v311 c128_i32
  let v313 : BitVec 32 := Scalar.addi v312 c0_i32_122
  let v314 : Index := Scalar.indexCast v313
  ![v314.toNat]
def k0_off10 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32 : BitVec 32 := 16#32
  let v30 : BitVec 32 := Scalar.muli v18 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.muli v28 c4_i32_10
  let v31 : BitVec 32 := Scalar.addi v30 v29
  let c0_i32_71 : BitVec 32 := 0#32
  let c1_i32_73 : BitVec 32 := 1#32
  let arg15 : BitVec 32 := Scf.iv c0_i32_71 c1_i32_73 k0_t2
  let v281 : BitVec 32 := Scalar.addi v31 arg15
  let c61440_i32 : BitVec 32 := 61440#32
  let v282 : BitVec 32 := Scalar.muli v281 c61440_i32
  ![v282.toNat]
@[reducible] def k0_t6_loop : Scf.Loop 32 :=
  let c10_i32 : BitVec 32 := 10#32
  let c10_i32_106 : BitVec 32 := 10#32
  let v290 : BitVec 32 := Scalar.addi c10_i32 c10_i32_106
  let c1_i32_107 : BitVec 32 := 1#32
  ⟨c10_i32, v290, c1_i32_107⟩
@[reducible] def k0_t7_loop : Scf.Loop 32 :=
  let c0_i32_114 : BitVec 32 := 0#32
  let c22_i32 : BitVec 32 := 22#32
  let v302 : BitVec 32 := Scalar.addi c0_i32_114 c22_i32
  let c1_i32_115 : BitVec 32 := 1#32
  ⟨c0_i32_114, v302, c1_i32_115⟩
def k0_off11 (k0_t2 : Fin k0_t2_loop.trips) (v266 : BitVec 32) (k0_t6 : Fin k0_t6_loop.trips) (k0_t7 : Fin k0_t7_loop.trips) (c0_i32_119 : BitVec 32) : Fin 1 → Nat :=
  let c0_i32_71 : BitVec 32 := 0#32
  let c1_i32_73 : BitVec 32 := 1#32
  let arg15 : BitVec 32 := Scf.iv c0_i32_71 c1_i32_73 k0_t2
  let c2_i32_90 : BitVec 32 := 2#32
  let c0_i32_91 : BitVec 32 := 0#32
  let v267 : BitVec 1 := Scalar.cmpi .eq c2_i32_90 c0_i32_91
  let c1_i32_92 : BitVec 32 := 1#32
  let v268 : BitVec 32 := Scalar.select v267 c1_i32_92 c2_i32_90
  let v269 : BitVec 32 := Scalar.remsi arg15 v268
  let c0_i32_94 : BitVec 32 := 0#32
  let v271 : BitVec 1 := Scalar.cmpi .slt v269 c0_i32_94
  let c0_i32_95 : BitVec 32 := 0#32
  let v272 : BitVec 1 := Scalar.cmpi .slt v268 c0_i32_95
  let v273 : BitVec 1 := Scalar.xori v271 v272
  let c0_i32_93 : BitVec 32 := 0#32
  let v270 : BitVec 1 := Scalar.cmpi .ne v269 c0_i32_93
  let v274 : BitVec 1 := Scalar.andi v273 v270
  let v275 : BitVec 32 := Scalar.addi v269 v268
  let v276 : BitVec 32 := Scalar.select v274 v275 v269
  let c31152_i32_113 : BitVec 32 := 31152#32
  let v301 : BitVec 32 := Scalar.muli v276 c31152_i32_113
  let c0_i32_118 : BitVec 32 := 0#32
  let c0_i32_114 : BitVec 32 := 0#32
  let c1_i32_115 : BitVec 32 := 1#32
  let arg17 : BitVec 32 := Scf.iv c0_i32_114 c1_i32_115 k0_t7
  let c1_i32_117 : BitVec 32 := 1#32
  let v303 : BitVec 32 := Scalar.muli arg17 c1_i32_117
  let v304 : BitVec 32 := Scalar.addi c0_i32_118 v303
  let c1416_i32 : BitVec 32 := 1416#32
  let v305 : BitVec 32 := Scalar.muli v304 c1416_i32
  let v306 : BitVec 32 := Scalar.addi v301 v305
  let c10_i32 : BitVec 32 := 10#32
  let c1_i32_107 : BitVec 32 := 1#32
  let arg16 : BitVec 32 := Scf.iv c10_i32 c1_i32_107 k0_t6
  let c8_i32 : BitVec 32 := 8#32
  let v298 : BitVec 32 := Scalar.subi arg16 c8_i32
  let c100_i32_112 : BitVec 32 := 100#32
  let v299 : BitVec 32 := Scalar.muli v298 c100_i32_112
  let v300 : BitVec 32 := Scalar.addi v266 v299
  let v307 : BitVec 32 := Scalar.addi v306 v300
  let v311 : BitVec 32 := Scalar.addi v307 c0_i32_119
  let v312 : Index := Scalar.indexCast v311
  ![v312.toNat]

def k0_chk1 (k0_t2 : Fin k0_t2_loop.trips) (v266 : BitVec 32) : Prop :=
  (∀ (k0_t3 : Fin k0_t3_loop.trips) (k0_t4 : Fin k0_t4_loop.trips), ∀ (k0_h4 : k0_cond4 v266 k0_t3 = 1#1), ∀ (r : Fin 7), ∀ a, (k0_off7 k0_t2 v266 k0_t3 k0_t4 (BitVec.ofNat 32 (16 * r.val))) a + S16.size a ≤ S62304.size a) ∧
  (∀ (k0_t6 : Fin k0_t6_loop.trips) (k0_t7 : Fin k0_t7_loop.trips), ∀ (r : Fin 7), ∀ a, (k0_off11 k0_t2 v266 k0_t6 k0_t7 (BitVec.ofNat 32 (16 * r.val))) a + S16.size a ≤ S62304.size a)
theorem k0_off7_inb : ∀ (k0_t2 : Fin k0_t2_loop.trips) (v266 : BitVec 32) (k0_hw1 : k0_chk1 k0_t2 v266) (k0_t3 : Fin k0_t3_loop.trips) (k0_t4 : Fin k0_t4_loop.trips), ∀ (k0_h4 : k0_cond4 v266 k0_t3 = 1#1), ∀ (r : Fin 7), ∀ a, (k0_off7 k0_t2 v266 k0_t3 k0_t4 (BitVec.ofNat 32 (16 * r.val))) a + S16.size a ≤ S62304.size a := fun k0_t2 v266 k0_hw1 k0_t3 k0_t4 k0_h4 r => k0_hw1.1 k0_t3 k0_t4 k0_h4 r
theorem k0_off11_inb : ∀ (k0_t2 : Fin k0_t2_loop.trips) (v266 : BitVec 32) (k0_hw1 : k0_chk1 k0_t2 v266) (k0_t6 : Fin k0_t6_loop.trips) (k0_t7 : Fin k0_t7_loop.trips), ∀ (r : Fin 7), ∀ a, (k0_off11 k0_t2 v266 k0_t6 k0_t7 (BitVec.ofNat 32 (16 * r.val))) a + S16.size a ≤ S62304.size a := fun k0_t2 v266 k0_hw1 k0_t6 k0_t7 r => k0_hw1.2 k0_t6 k0_t7 r

def k0_off12 (k0_t6 : Fin k0_t6_loop.trips) (k0_t7 : Fin k0_t7_loop.trips) (c0_i32_120 : BitVec 32) : Fin 1 → Nat :=
  let c10_i32 : BitVec 32 := 10#32
  let c1_i32_107 : BitVec 32 := 1#32
  let arg16 : BitVec 32 := Scf.iv c10_i32 c1_i32_107 k0_t6
  let c24_i32 : BitVec 32 := 24#32
  let v308 : BitVec 32 := Scalar.muli arg16 c24_i32
  let c0_i32_118 : BitVec 32 := 0#32
  let c0_i32_114 : BitVec 32 := 0#32
  let c1_i32_115 : BitVec 32 := 1#32
  let arg17 : BitVec 32 := Scf.iv c0_i32_114 c1_i32_115 k0_t7
  let c1_i32_117 : BitVec 32 := 1#32
  let v303 : BitVec 32 := Scalar.muli arg17 c1_i32_117
  let v304 : BitVec 32 := Scalar.addi c0_i32_118 v303
  let v309 : BitVec 32 := Scalar.addi v308 v304
  let c128_i32 : BitVec 32 := 128#32
  let v310 : BitVec 32 := Scalar.muli v309 c128_i32
  let v314 : BitVec 32 := Scalar.addi v310 c0_i32_120
  let v315 : Index := Scalar.indexCast v314
  ![v315.toNat]
def k0_off13 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32 : BitVec 32 := 16#32
  let v30 : BitVec 32 := Scalar.muli v18 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.muli v28 c4_i32_10
  let v31 : BitVec 32 := Scalar.addi v30 v29
  let c0_i32_71 : BitVec 32 := 0#32
  let c1_i32_73 : BitVec 32 := 1#32
  let arg15 : BitVec 32 := Scf.iv c0_i32_71 c1_i32_73 k0_t2
  let v291 : BitVec 32 := Scalar.addi v31 arg15
  let c61440_i32_109 : BitVec 32 := 61440#32
  let v292 : BitVec 32 := Scalar.muli v291 c61440_i32_109
  let c30720_i32 : BitVec 32 := 30720#32
  let v293 : BitVec 32 := Scalar.addi v292 c30720_i32
  ![v293.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x22x12000 : Shape := ⟨3, ![128, 22, 12000]⟩
abbrev S128 : Shape := ⟨1, ![128]⟩
abbrev S20 : Shape := ⟨1, ![20]⟩
abbrev S_ : Shape := ⟨0, ![]⟩
abbrev S128x1 : Shape := ⟨2, ![128, 1]⟩
abbrev S1x20 : Shape := ⟨2, ![1, 20]⟩
abbrev S128x20 : Shape := ⟨2, ![128, 20]⟩
abbrev S100 : Shape := ⟨1, ![100]⟩
abbrev S128x20x1 : Shape := ⟨3, ![128, 20, 1]⟩
abbrev S1x1x100 : Shape := ⟨3, ![1, 1, 100]⟩
abbrev S128x20x100 : Shape := ⟨3, ![128, 20, 100]⟩
abbrev S128x1x20x100 : Shape := ⟨4, ![128, 1, 20, 100]⟩
abbrev S128x22x20x100 : Shape := ⟨4, ![128, 22, 20, 100]⟩
abbrev S128x22x2000 : Shape := ⟨3, ![128, 22, 2000]⟩
abbrev S128x22x2000x1 : Shape := ⟨4, ![128, 22, 2000, 1]⟩
abbrev S1 : Shape := ⟨1, ![1]⟩
abbrev S1x1x1x1 : Shape := ⟨4, ![1, 1, 1, 1]⟩
abbrev S128x20x22x100 : Shape := ⟨4, ![128, 20, 22, 100]⟩
abbrev S128x20x1x1 : Shape := ⟨4, ![128, 20, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S128x22x12000, .f32⟩
  | .hbm, ⟨1, _⟩ => ⟨S128, .f32⟩
  | .hbm, ⟨2, _⟩ => ⟨S128, .f32⟩
  | .hbm, ⟨3, _⟩ => ⟨S20, .i32⟩
  | .hbm, ⟨4, _⟩ => ⟨S_, .i32⟩
  | .hbm, ⟨5, _⟩ => ⟨S20, .i32⟩
  | .hbm, ⟨6, _⟩ => ⟨S20, .i32⟩
  | .hbm, ⟨7, _⟩ => ⟨S_, .i32⟩
  | .hbm, ⟨8, _⟩ => ⟨S20, .i32⟩
  | .hbm, ⟨9, _⟩ => ⟨S20, .i32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .i32⟩
  | .hbm, ⟨19, _⟩ => ⟨S128x1, .i32⟩
  | .hbm, ⟨20, _⟩ => ⟨S1x20, .i32⟩
  | .hbm, ⟨21, _⟩ => ⟨S128x20, .i32⟩
  | .hbm, ⟨22, _⟩ => ⟨S128x20, .i32⟩
  | .hbm, ⟨23, _⟩ => ⟨S128x20, .i32⟩
  | .hbm, ⟨24, _⟩ => ⟨S_, .i32⟩
  | .hbm, ⟨25, _⟩ => ⟨S128x20, .i32⟩
  | .hbm, ⟨26, _⟩ => ⟨S128x20, .i1⟩
  | .hbm, ⟨27, _⟩ => ⟨S_, .i32⟩
  | .hbm, ⟨28, _⟩ => ⟨S128x20, .i32⟩
  | .hbm, ⟨29, _⟩ => ⟨S128x20, .i32⟩
  | .hbm, ⟨30, _⟩ => ⟨S_, .i32⟩
  | .hbm, ⟨31, _⟩ => ⟨S128x20, .i32⟩
  | .hbm, ⟨32, _⟩ => ⟨S128x20, .i1⟩
  | .hbm, ⟨33, _⟩ => ⟨S128x20, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S128x20, .i32⟩
  | .hbm, ⟨38, _⟩ => ⟨S128x20, .i32⟩
  | .hbm, ⟨39, _⟩ => ⟨S_, .i32⟩
  | .hbm, ⟨40, _⟩ => ⟨S128x20, .i32⟩
  | .hbm, ⟨41, _⟩ => ⟨S128x20, .i32⟩
  | .hbm, ⟨42, _⟩ => ⟨S100, .i32⟩
  | .hbm, ⟨43, _⟩ => ⟨S128x20x1, .i32⟩
  | .hbm, ⟨44, _⟩ => ⟨S1x1x100, .i32⟩
  | .hbm, ⟨45, _⟩ => ⟨S128x20x100, .i32⟩
  | .hbm, ⟨46, _⟩ => ⟨S128x20x100, .i32⟩
  | .hbm, ⟨47, _⟩ => ⟨S128x20x100, .i32⟩
  | .hbm, ⟨48, _⟩ => ⟨S128x1x20x100, .i32⟩
  | .hbm, ⟨49, _⟩ => ⟨S128x22x20x100, .i32⟩
  | .hbm, ⟨50, _⟩ => ⟨S128x22x2000, .i32⟩
  | .hbm, ⟨51, _⟩ => ⟨S_, .i32⟩
  | .hbm, ⟨52, _⟩ => ⟨S128x22x2000, .i32⟩
  | .hbm, ⟨53, _⟩ => ⟨S128x22x2000, .i1⟩
  | .hbm, ⟨54, _⟩ => ⟨S_, .i32⟩
  | .hbm, ⟨55, _⟩ => ⟨S128x22x2000, .i32⟩
  | .hbm, ⟨56, _⟩ => ⟨S128x22x2000, .i32⟩
  | .hbm, ⟨57, _⟩ => ⟨S128x22x2000, .i32⟩
  | .hbm, ⟨58, _⟩ => ⟨S128x22x2000x1, .i32⟩
  | .hbm, ⟨59, _⟩ => ⟨S1, .i32⟩
  | .hbm, ⟨60, _⟩ => ⟨S_, .i32⟩
  | .hbm, ⟨61, _⟩ => ⟨S128x22x2000x1, .i32⟩
  | .hbm, ⟨62, _⟩ => ⟨S128x22x2000x1, .i1⟩
  | .hbm, ⟨63, _⟩ => ⟨S1x1x1x1, .i32⟩
  | .hbm, ⟨64, _⟩ => ⟨S128x22x2000x1, .i32⟩
  | .hbm, ⟨65, _⟩ => ⟨S128x22x2000x1, .i1⟩
  | .hbm, ⟨66, _⟩ => ⟨S128x22x2000x1, .i1⟩
  | .hbm, ⟨67, _⟩ => ⟨S_, .i1⟩
  | .hbm, ⟨68, _⟩ => ⟨S128x22x2000, .i1⟩
  | .hbm, ⟨69, _⟩ => ⟨S128x22x2000, .f32⟩
  | .hbm, ⟨70, _⟩ => ⟨S_, .f32⟩
  | .hbm, ⟨71, _⟩ => ⟨S128x22x2000, .f32⟩
  | .hbm, ⟨72, _⟩ => ⟨S128x22x2000, .f32⟩
  | .hbm, ⟨73, _⟩ => ⟨S128x22x20x100, .f32⟩
  | .hbm, ⟨74, _⟩ => ⟨S128x20x22x100, .f32⟩
  | .hbm, ⟨75, _⟩ => ⟨S128x20x1x1, .i1⟩
  | .hbm, ⟨76, _⟩ => ⟨S128x20x1x1, .f32⟩
  | .hbm, ⟨77, _⟩ => ⟨S128x20x22x100, .f32⟩
  | .hbm, ⟨78, _⟩ => ⟨S128x20x22x100, .f32⟩
  | .hbm, ⟨79, _⟩ => ⟨S128x20, .i32⟩
  | .hbm, ⟨80, _⟩ => ⟨S_, .i32⟩
  | .hbm, ⟨81, _⟩ => ⟨S128, .i32⟩
  | .hbm, ⟨82, _⟩ => ⟨S1x20, .f32⟩
  | .hbm, ⟨83, _⟩ => ⟨S128x20, .f32⟩
  | _, _ => ⟨S128x22x12000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_c_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_7 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩

abbrev nD : Nat := 1
abbrev τ : Topo := Topo.v7x

variable {F : FTy → Type} [FloatOps F]
-- ==== Proof.Words.lean ====
/-
  The integer words of the kernel in closed form: which tile a grid coordinate is, where each copy and each vector
  access starts, which of the conditions hold, and that the reads the kernel checks stay inside the staging buffer
  when the onset sample lies strictly between -200 and 200.
-/
module

public import proofs.«01_k».proof.Proof.Gen.KernelIdeal
public import proofs.«01_k».proof.Proof.Gen.KernelIdeal.Skeleton
public import Idealize.ShloMosaic.Lib.Affine

@[expose] public section

namespace Cert.Proof.Words

open Cert.KernelIdeal Cert.KernelIdeal.Gen Idealize.ShloMosaic

/-- The tile a grid coordinate is: subcores in pairs over the two SparseCores. -/
def wid (i : grid0.Coords) : Nat := (i 1).val * 2 + (i 0).val

theorem wid_lt (i : grid0.Coords) : wid i < 32 := by
  have h0 : (i 0).val < 2 := (i 0).isLt
  have h1 : (i 1).val < 16 := (i 1).isLt
  unfold wid; omega

/-- The first lane of the tile's four batches among its chunk of sixteen. -/
abbrev laneWord (i : grid0.Coords) : BitVec 32 := BitVec.ofNat 32 (wid i % 4 * 4)

theorem t1_trips : k0_t1_loop.trips = 1344 := by decide
theorem t2_trips : k0_t2_loop.trips = 4 := by decide
theorem t3_trips : k0_t3_loop.trips = 3 := by decide
theorem t4_trips : k0_t4_loop.trips = 22 := by decide
theorem t5_trips : k0_t5_loop.trips = 22 := by decide
theorem t6_trips : k0_t6_loop.trips = 10 := by decide
theorem t7_trips : k0_t7_loop.trips = 22 := by decide

theorem t2_lt (t : Fin k0_t2_loop.trips) : t.val < 4 := lt_of_lt_of_eq t.isLt t2_trips
theorem t3_lt (t : Fin k0_t3_loop.trips) : t.val < 3 := lt_of_lt_of_eq t.isLt t3_trips
theorem t4_lt (t : Fin k0_t4_loop.trips) : t.val < 22 := lt_of_lt_of_eq t.isLt t4_trips
theorem t5_lt (t : Fin k0_t5_loop.trips) : t.val < 22 := lt_of_lt_of_eq t.isLt t5_trips
theorem t6_lt (t : Fin k0_t6_loop.trips) : t.val < 10 := lt_of_lt_of_eq t.isLt t6_trips
theorem t7_lt (t : Fin k0_t7_loop.trips) : t.val < 22 := lt_of_lt_of_eq t.isLt t7_trips

/-! ## The copies' starts -/

theorem off1_eq : ∀ i : grid0.Coords, k0_off1 i = ![4 * wid i * 31152] := by decide +kernel
theorem off2_eq : ∀ i : grid0.Coords, k0_off2 i = ![wid i / 4 * 16] := by decide +kernel
theorem off3_eq : ∀ i : grid0.Coords, k0_off3 i = ![wid i / 4 * 16] := by decide +kernel
theorem cond1_iff : ∀ i : grid0.Coords, k0_cond1 i = 1#1 ↔ wid i % 4 = 0 := by decide +kernel
theorem off5_eq : ∀ t : Fin k0_t2_loop.trips, k0_off5 t = ![(t.val + 1) % 2 * 31152] := by decide +kernel
theorem off6_eq : ∀ (i : grid0.Coords) (t : Fin k0_t2_loop.trips), k0_off6 i t = ![(4 * wid i + t.val + 1) * 31152] := by decide +kernel
theorem cond2_iff : ∀ t : Fin k0_t2_loop.trips, k0_cond2 t = 1#1 ↔ t.val + 1 < 4 := by decide +kernel
theorem off10_eq : ∀ (i : grid0.Coords) (t : Fin k0_t2_loop.trips), k0_off10 i t = ![(4 * wid i + t.val) * 61440] := by decide +kernel
theorem off13_eq : ∀ (i : grid0.Coords) (t : Fin k0_t2_loop.trips), k0_off13 i t = ![(4 * wid i + t.val) * 61440 + 30720] := by decide +kernel

/-! ## The onset-dependent reads -/

/-- The word `t % 2` as the kernel computes it. -/
theorem parity_word : ∀ t : Fin k0_t2_loop.trips,
    Scalar.select (Scalar.andi (Scalar.xori (Scalar.cmpi .slt (Scalar.remsi (Scf.iv 0#32 1#32 t) (Scalar.select (Scalar.cmpi .eq 2#32 0#32) 1#32 2#32)) 0#32)
        (Scalar.cmpi .slt (Scalar.select (Scalar.cmpi .eq 2#32 0#32) 1#32 2#32) 0#32))
        (Scalar.cmpi .ne (Scalar.remsi (Scf.iv 0#32 1#32 t) (Scalar.select (Scalar.cmpi .eq 2#32 0#32) 1#32 2#32)) 0#32))
      (Scalar.addi (Scalar.remsi (Scf.iv 0#32 1#32 t) (Scalar.select (Scalar.cmpi .eq 2#32 0#32) 1#32 2#32)) (Scalar.select (Scalar.cmpi .eq 2#32 0#32) 1#32 2#32))
      (Scalar.remsi (Scf.iv 0#32 1#32 t) (Scalar.select (Scalar.cmpi .eq 2#32 0#32) 1#32 2#32)) = BitVec.ofNat 32 (t.val % 2) := by
  decide +kernel

variable {v : BitVec 32}

/-- The patch's start word `onset + (p - 8) * 100`. -/
theorem start_word (h0 : -200 < v.toInt) (h1 : v.toInt < 200) (lb : Nat) (k : Nat) (hk : lb + k < 20) :
    Affine.IsInt (Scalar.addi v (Scalar.muli (Scalar.subi (Scf.iv (BitVec.ofNat 32 lb) 1#32 k) 8#32) 100#32))
      (v.toInt + ((lb + k : Nat) - 8 : Int) * 100) := by
  have hiv : Affine.IsInt (Scf.iv (BitVec.ofNat 32 lb) 1#32 k) ((lb + k : Nat) : Int) :=
    Affine.iv (Affine.ofNat lb ⟨rfl, by omega⟩) (Affine.ofNat 1 ⟨rfl, by omega⟩) k (by omega)
  have h8 : Affine.IsInt 8#32 (8 : Int) := Affine.ofNat 8 ⟨rfl, by omega⟩
  have h100 : Affine.IsInt 100#32 (100 : Int) := Affine.ofNat 100 ⟨rfl, by omega⟩
  exact Affine.addi (Affine.word v) (Affine.muli (Affine.subi hiv h8 (e := ((lb + k : Nat) : Int) - 8) (by omega)) h100
    (e := (((lb + k : Nat) : Int) - 8) * 100) (by omega)) (by omega)

/-- The start of a vector read: the half, the channel's row, the patch's start, the vector. -/
theorem read_word (h0 : -200 < v.toInt) (h1 : v.toInt < 200) (par c lb k r : Nat) (hp : par < 2) (hc : c < 22) (hk : lb + k < 20) (hr : r < 7) :
    Affine.IsInt (Scalar.indexCast (Scalar.addi (Scalar.addi (Scalar.addi (Scalar.muli (BitVec.ofNat 32 par) 31152#32)
        (Scalar.muli (Scalar.addi 0#32 (Scalar.muli (Scf.iv 0#32 1#32 c) 1#32)) 1416#32))
        (Scalar.addi v (Scalar.muli (Scalar.subi (Scf.iv (BitVec.ofNat 32 lb) 1#32 k) 8#32) 100#32))) (BitVec.ofNat 32 (16 * r))))
      (par * 31152 + c * 1416 + (v.toInt + ((lb + k : Nat) - 8 : Int) * 100) + 16 * r) := by
  have hs := start_word h0 h1 lb k hk
  have hpar : Affine.IsInt (BitVec.ofNat 32 par) (par : Int) := Affine.ofNat par ⟨rfl, by omega⟩
  have hw : Affine.IsInt 31152#32 (31152 : Int) := Affine.ofNat 31152 ⟨rfl, by omega⟩
  have h14 : Affine.IsInt 1416#32 (1416 : Int) := Affine.ofNat 1416 ⟨rfl, by omega⟩
  have h00 : Affine.IsInt 0#32 (0 : Int) := Affine.ofNat 0 ⟨rfl, by omega⟩
  have h11 : Affine.IsInt 1#32 (1 : Int) := Affine.ofNat 1 ⟨rfl, by omega⟩
  have hr' : Affine.IsInt (BitVec.ofNat 32 (16 * r)) ((16 * r : Nat) : Int) := Affine.ofNat (16 * r) ⟨rfl, by omega⟩
  have hiv : Affine.IsInt (Scf.iv 0#32 1#32 c) (c : Int) := Affine.iv h00 h11 c (by omega)
  have hc1 : Affine.IsInt _ (c : Int) := Affine.addi h00 (Affine.muli hiv h11 (e := (c : Int)) (by omega)) (by omega)
  have hc2 := Affine.muli hc1 h14 (e := (c : Int) * 1416) (by omega)
  have hp2 := Affine.muli hpar hw (e := (par : Int) * 31152) (by omega)
  exact Affine.indexCast (Affine.addi (Affine.addi (Affine.addi hp2 hc2 (e := (par : Int) * 31152 + c * 1416) (by omega)) hs
    (e := (par : Int) * 31152 + c * 1416 + (v.toInt + ((lb + k : Nat) - 8 : Int) * 100)) (by omega)) hr' (by push_cast; omega))

/-- A patch of the first half is copied exactly when its start is not negative. -/
theorem cond4_iff (h0 : -200 < v.toInt) (h1 : v.toInt < 200) (k : Fin k0_t3_loop.trips) :
    k0_cond4 v k = 1#1 ↔ 0 ≤ v.toInt + ((7 + k.val : Nat) - 8 : Int) * 100 := by
  have hk := t3_lt k
  have hs := start_word h0 h1 7 k.val (by omega)
  have h00 : Affine.IsInt 0#32 (0 : Int) := Affine.ofNat 0 ⟨rfl, by omega⟩
  unfold k0_cond4
  dsimp only
  constructor
  · intro h
    by_contra hn
    have hf := Affine.sge_fails hs h00 (by omega)
    have := Affine.ne_fails (Affine.extui_fails hf rfl) h00 rfl
    exact this h
  · intro h
    exact Affine.ne_holds (Affine.extui_holds (Affine.sge_holds hs h00 (by omega)) rfl) h00 (by omega)

/-- The condition the kernel negates for the zeroed patches. -/
theorem cond4_not (h0 : -200 < v.toInt) (h1 : v.toInt < 200) (k : Fin k0_t3_loop.trips) :
    Scalar.cmpi .ne (Scalar.extui (Scalar.xori (Scalar.cmpi .sge (Scalar.addi v (Scalar.muli (Scalar.subi (Scf.iv 7#32 1#32 k) 8#32) 100#32)) 0#32) 1#1) : BitVec 32) 0#32 = 1#1
      ↔ ¬ 0 ≤ v.toInt + ((7 + k.val : Nat) - 8 : Int) * 100 := by
  have hk := t3_lt k
  have hs := start_word h0 h1 7 k.val (by omega)
  have h00 : Affine.IsInt 0#32 (0 : Int) := Affine.ofNat 0 ⟨rfl, by omega⟩
  constructor
  · intro h hn
    have hf := Affine.xori_hh (Affine.sge_holds hs h00 (by omega)) Affine.holds_one
    exact Affine.ne_fails (Affine.extui_fails hf rfl) h00 rfl h
  · intro h
    have hf := Affine.xori_fh (Affine.sge_fails hs h00 h) Affine.holds_one
    exact Affine.ne_holds (Affine.extui_holds hf rfl) h00 (by omega)

theorem off7_eq (h0 : -200 < v.toInt) (h1 : v.toInt < 200) (t : Fin k0_t2_loop.trips) (k : Fin k0_t3_loop.trips) (c : Fin k0_t4_loop.trips)
    (h : 0 ≤ v.toInt + ((7 + k.val : Nat) - 8 : Int) * 100) (r : Fin 7) :
    k0_off7 t v k c (BitVec.ofNat 32 (16 * r.val)) = ![t.val % 2 * 31152 + c.val * 1416 + (v.toInt + ((7 + k.val : Nat) - 8 : Int) * 100).toNat + 16 * r.val] := by
  have hk := t3_lt k
  have hc := t4_lt c
  have hr := r.isLt
  unfold k0_off7
  dsimp only
  rw [parity_word t]
  exact Affine.vec_cons (read_word h0 h1 (t.val % 2) c.val 7 k.val r.val (by omega) hc (by omega) hr) (by push_cast; omega) Affine.vec_nil

theorem off11_eq (h0 : -200 < v.toInt) (h1 : v.toInt < 200) (t : Fin k0_t2_loop.trips) (k : Fin k0_t6_loop.trips) (c : Fin k0_t7_loop.trips) (r : Fin 7) :
    k0_off11 t v k c (BitVec.ofNat 32 (16 * r.val)) = ![t.val % 2 * 31152 + c.val * 1416 + (v.toInt + ((10 + k.val : Nat) - 8 : Int) * 100).toNat + 16 * r.val] := by
  have hk := t6_lt k
  have hc := t7_lt c
  have hr := r.isLt
  unfold k0_off11
  dsimp only
  rw [parity_word t]
  exact Affine.vec_cons (read_word h0 h1 (t.val % 2) c.val 10 k.val r.val (by omega) hc (by omega) hr) (by push_cast; omega) Affine.vec_nil

/-- What the kernel checks of its onset word. -/
theorem chk (h0 : -200 < v.toInt) (h1 : v.toInt < 200) (t : Fin k0_t2_loop.trips) : k0_chk1 t v := by
  have ht := t2_lt t
  refine ⟨fun k c hcond r a => ?_, fun k c r a => ?_⟩
  · have hk := t3_lt k
    have hc := t4_lt c
    have hr := r.isLt
    have hs := (cond4_iff h0 h1 k).1 hcond
    rw [off7_eq h0 h1 t k c hs r]
    fin_cases a
    show t.val % 2 * 31152 + c.val * 1416 + (v.toInt + ((7 + k.val : Nat) - 8 : Int) * 100).toNat + 16 * r.val + 16 ≤ 62304
    omega
  · have hk := t6_lt k
    have hc := t7_lt c
    have hr := r.isLt
    rw [off11_eq h0 h1 t k c r]
    fin_cases a
    show t.val % 2 * 31152 + c.val * 1416 + (v.toInt + ((10 + k.val : Nat) - 8 : Int) * 100).toNat + 16 * r.val + 16 ≤ 62304
    omega

end Cert.Proof.Words
-- ==== Proof.Pay.lean ====
/-
  What the kernel's run leaves in its result arrays, element by element, over any float values; and the two words its
  vector arithmetic computes: the onset sample of one batch, and the number of valid patches of one batch.
-/
module

public import proofs.«01_k».proof.Proof.Words

@[expose] public section

noncomputable section

namespace Cert.Proof.Pay

open Cert.KernelIdeal Cert.KernelIdeal.Gen Idealize.ShloMosaic
open Cert.Proof.Words

variable {F : FTy → Type} [FloatOps F]

/-! ## The specification -/

/-- Position `n` of a line of `N`. -/
def pt {N : Nat} (n : Nat) (h : n < N) : (⟨1, ![N]⟩ : Shape).Idx := fun a => ⟨n, by rw [Fin.fin_one_eq_zero a]; exact h⟩

theorem pt_eq {N n : Nat} (h : n < N) (y : (⟨1, ![N]⟩ : Shape).Idx) (hy : (y 0).val = n) : y = pt n h :=
  funext fun a => by rw [Fin.fin_one_eq_zero a]; exact Fin.ext hy

/-- The zero the kernel writes. -/
def zero : F .f32 := Scalar.ofBits .f32 0x00000000#32

/-- The onset samples of all batches. -/
def onsets (fon fws : FVec F S128 .f32) : IVec S128 32 :=
  fptosi 32 (mulf (subf fon fws) (broadcast S128 (Scalar.ofBits .f32 0x43480000#32)))

/-- Element `b` of a line of 128 words. -/
def wordAt (on : IVec S128 32) (b : Nat) : BitVec 32 := if h : b < 128 then on (pt b h) else 0

theorem wordAt_idx (on : IVec S128 32) (y : S128.Idx) : on y = wordAt on (y 0).val := by
  have h : (y 0).val < 128 := (y 0).isLt
  unfold wordAt; rw [dif_pos h]
  exact congrArg on (pt_eq h y rfl)

/-- Element `n` of the trimmed signal laid out as one line. -/
def rd (fx : FVec F S3987456 .f32) (n : Nat) : F .f32 := if h : n < 3987456 then fx (pt n h) else zero

theorem rd_idx (fx : FVec F S3987456 .f32) (y : S3987456.Idx) : fx y = rd fx (y 0).val := by
  have h : (y 0).val < 3987456 := (y 0).isLt
  unfold rd; rw [dif_pos h]
  exact congrArg fx (pt_eq h y rfl)

/-- The sample patch `p` starts at, for the onset sample `v`. -/
def startAt (v : BitVec 32) (p : Nat) : Int := v.toInt + ((p : Int) - 8) * 100

/-- Element `n` of batch `b`'s patches: patches of 24 rows of 128, the first 22 rows and 100 columns meant. -/
def out (fx : FVec F S3987456 .f32) (v : BitVec 32) (b n : Nat) : F .f32 :=
  if 0 ≤ startAt v (n / 3072) then rd fx (b * 31152 + n / 128 % 24 * 1416 + (startAt v (n / 3072)).toNat + n % 128) else zero

/-- What element `n` of batch `b`'s patches must be: nothing is asked of the padding. -/
def LGood (fx : FVec F S3987456 .f32) (v : BitVec 32) (b n : Nat) (w : F .f32) : Prop :=
  n % 128 < 100 → n / 128 % 24 < 22 → w = out fx v b n

/-- The same, of the patches of all batches. -/
def Good (fx : FVec F S3987456 .f32) (on : IVec S128 32) (n : Nat) (w : F .f32) : Prop :=
  LGood fx (wordAt on (n / 61440)) (n / 61440) (n % 61440) w

/-- Whether patch `p` lies inside the signal, as a word. -/
def bit (v : BitVec 32) (p : Nat) : BitVec 32 :=
  Scalar.select (IntOp.andi (IntOp.cmpi .sge (IntOp.addi v (BitVec.ofInt 32 (((p : Int) - 8) * 100))) 0#32)
    (IntOp.cmpi .sle (IntOp.addi v (BitVec.ofInt 32 (((p : Int) - 8) * 100))) 11900#32)) 1#32 0#32

/-- How many of the first `n` patches lie inside the signal. -/
def countTo (v : BitVec 32) : Nat → BitVec 32
  | 0 => 0#32
  | n + 1 => IntOp.addi (countTo v n) (bit v n)

/-! ## Patches before the onset -/

/-- The first seven patches start before the signal. -/
theorem out_early {fx : FVec F S3987456 .f32} {v : BitVec 32} (h1 : v.toInt < 200) {b n : Nat} (hn : n < 21504) :
    out fx v b n = zero := by
  unfold out; rw [if_neg]
  unfold startAt
  have : n / 3072 ≤ 6 := by omega
  omega

/-! ## The valid-patch counts -/

/-- The count vector the kernel stores, from its onset vector. -/
def countVec (v41 v42 : Vec F S16 .f32) : IVec S16 32 :=
  let v45 := k0_pay2 v41 v42
  let v65 := k0_pay4 v41 v42
  let v110 := k0_pay8 v45 k0_pay3 v65 (k0_pay6 v41 v42) (k0_pay7 v41 v42)
  let v155 := k0_pay12 v45 k0_pay3 v110 (k0_pay10 v45 k0_pay3) (k0_pay11 v45)
  let v200 := k0_pay16 v45 k0_pay3 v155 (k0_pay14 v45 k0_pay3) (k0_pay15 v45)
  k0_pay20 v45 k0_pay3 v200 (k0_pay18 v45 k0_pay3) (k0_pay19 v45)

theorem countVec_apply (v41 v42 : Vec F S16 .f32) (j : S16.Idx) : countVec v41 v42 j = countTo (k0_pay2 v41 v42 j) 20 := by
  generalize hv : k0_pay2 v41 v42 = v45
  unfold countVec k0_pay4 k0_pay6 k0_pay7 k0_pay5
  rw [hv]
  rfl

theorem pay2_apply (fon fws : FVec F S128 .f32) (v41 v42 : Vec F S16 .f32) (j : S16.Idx) (y : S128.Idx) (h1 : v41 j = fon y) (h2 : v42 j = fws y) :
    k0_pay2 v41 v42 j = onsets fon fws y := by
  show FloatOps.fptosi 32 (FloatOps.mulf (FloatOps.subf (v41 j) (v42 j)) _) = FloatOps.fptosi 32 (FloatOps.mulf (FloatOps.subf (fon y) (fws y)) _)
  rw [h1, h2]
  rfl

/-! ## One batch's onset sample -/

/-- Lane `l` of a line of sixteen. -/
def lane (l : Fin 16) : S16.Idx := pt l.val l.isLt

/-- The running sum of a vector which is zero but at lane `l`: its last lane is that lane. -/
theorem scan_single (v : IVec S16 32) (l : Fin 16) :
    extractAt ![15] (scan .sum (fun j => if (j 0).val = l.val then v j else 0#32) : IVec S16 32) inpos_S16_p15 = v (lane l) := by
  generalize hx : v (lane l) = x
  have hv : (fun j : S16.Idx => if (j 0).val = l.val then v j else 0#32) = fun j => if (j 0).val = l.val then x else 0#32 := by
    funext j
    by_cases h : (j 0).val = l.val
    · rw [if_pos h, if_pos h, ← hx]
      exact congrArg v (pt_eq l.isLt j h)
    · rw [if_neg h, if_neg h]
  rw [hv]
  fin_cases l <;>
    simp [extractAt, scan, ScanKind.step, IntOp.addi, Shape.ofLane, List.finRange_succ, List.finRange_zero, lane]

theorem lane_of (i : grid0.Coords) (t : Fin k0_t2_loop.trips) : wid i % 4 * 4 + t.val < 16 := by
  have := t2_lt t; omega

/-- The word the kernel picks at trip `t` is the onset sample of the tile's batch `t`. -/
theorem onset_word (i : grid0.Coords) (t : Fin k0_t2_loop.trips) (v45 : IVec S16 32) :
    extractAt ![15] (k0_pay1 (laneWord i) v45 (iota .scVector S16 32 [0]) k0_pay3 0#32 1#32 t) inpos_S16_p15
      = v45 (lane ⟨wid i % 4 * 4 + t.val, lane_of i t⟩) := by
  have ht := t2_lt t
  rw [← scan_single v45 ⟨wid i % 4 * 4 + t.val, lane_of i t⟩]
  congr 1
  show scan .sum _ = scan .sum _
  congr 1
  funext j
  have hj : (j 0).val < 16 := (j 0).isLt
  show Scalar.select (IntOp.cmpi .eq (BitVec.ofNat 32 (0 * 16 + (j 0).val)) (BitVec.ofNat 32 (wid i % 4 * 4) + (0#32 + BitVec.ofNat 32 t.val * 1#32))) (v45 j) 0#32 = _
  have hw : BitVec.ofNat 32 (wid i % 4 * 4) + (0#32 + BitVec.ofNat 32 t.val * 1#32) = BitVec.ofNat 32 (wid i % 4 * 4 + t.val) := by
    rw [BitVec.mul_one, BitVec.zero_add, BitVec.ofNat_add]
  rw [hw]
  unfold Scalar.select IntOp.cmpi
  by_cases h : (j 0).val = wid i % 4 * 4 + t.val
  · rw [if_pos h, if_pos]
    rw [← h, Nat.zero_mul, Nat.zero_add]; simp
  · rw [if_neg h, if_neg]
    intro hc
    have hc' : BitVec.ofNat 32 (0 * 16 + (j 0).val) = BitVec.ofNat 32 (wid i % 4 * 4 + t.val) := by
      by_contra hne
      revert hc
      simp only [beq_eq_false_iff_ne.2 hne]
      decide
    have := congrArg BitVec.toNat hc'
    simp only [BitVec.toNat_ofNat] at this
    have hl := lane_of i t
    omega

end Cert.Proof.Pay
-- ==== Proof.Strip.lean ====
/-
  A rank-one buffer held over an interval of its positions, with a property of every element held: how such a piece
  splits and joins, and what a vector load, a vector store and a local copy do to it.
-/
module

public import Idealize.ShloMosaic.Lib.SparseCore.FromWhole
public import Idealize.ShloMosaic.Lib.Tactic

@[expose] public section

noncomputable section

namespace Cert.Proof.Strip

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA

/-- The shape of a rank-one buffer of `N` elements. -/
abbrev Line (N : Nat) : Shape := ⟨1, ![N]⟩

/-- The positions from `a` up to `b`. -/
def seg (N a b : Nat) : Finset (Line N).Idx := Finset.univ.filter fun y => a ≤ (y 0).val ∧ (y 0).val < b

theorem mem_seg {N a b : Nat} {y : (Line N).Idx} : y ∈ seg N a b ↔ a ≤ (y 0).val ∧ (y 0).val < b := by
  unfold seg; rw [Finset.mem_filter]; exact and_iff_right (Finset.mem_univ _)

theorem seg_all {N : Nat} : seg N 0 N = Finset.univ := by
  ext y; rw [mem_seg]; exact ⟨fun _ => Finset.mem_univ _, fun _ => ⟨Nat.zero_le _, (y 0).isLt⟩⟩

theorem seg_union {N a m b : Nat} (h1 : a ≤ m) (h2 : m ≤ b) : seg N a b = seg N a m ∪ seg N m b := by
  ext y; rw [Finset.mem_union, mem_seg, mem_seg, mem_seg]; omega

theorem seg_disjoint {N a m b : Nat} : Disjoint (seg N a m) (seg N m b) := by
  rw [Finset.disjoint_left]; intro y h h'; rw [mem_seg] at h h'; omega

theorem unit_set {N : Nat} {off size : Fin 1 → Nat} {inb : ∀ a, off a + size a ≤ (Line N).size a} :
    (Rect.unit (s := Line N) off size inb).set = seg N (off 0) (off 0 + size 0) := by
  ext y
  rw [Rect.mem_set_unit, mem_seg]
  exact ⟨fun h => h 0, fun h a => by rw [Fin.fin_one_eq_zero a]; exact h⟩

theorem unit_emb {N : Nat} {off size : Fin 1 → Nat} {inb : ∀ a, off a + size a ≤ (Line N).size a}
    (x : (Rect.unit (s := Line N) off size inb).shape.Idx) :
    (((Rect.unit (s := Line N) off size inb).emb x) 0).val = off 0 + (x 0).val := by
  rw [Rect.emb_apply]; show off 0 + 1 * (x 0).val = _; omega

section Views

variable {sig : RefSig} {κ : Kind} {sp : Space} {e : EltTy} {N : Nat} {Val : EltTy → Type}

theorem slice_set (v : View sig κ sp (Line N) e) {off size : Fin 1 → Nat} {inb : ∀ a, off a + size a ≤ (Line N).size a} :
    (v.slice (Rect.unit (s := Line N) off size inb)).set = v.setOn (seg N (off 0) (off 0 + size 0)) := by
  rw [View.set_slice, unit_set]; rfl

theorem read_slice (v : View sig κ sp (Line N) e) {r : Rect (Line N)} (f : v.ty.Contents Val) (x : r.shape.Idx) :
    (v.slice r).read Val f x = v.read Val f (r.emb x) := rfl

/-- A write through a slice, read back inside it. -/
theorem read_write_in (v : View sig κ sp (Line N) e) {off size : Fin 1 → Nat} {inb : ∀ a, off a + size a ≤ (Line N).size a}
    (f : v.ty.Contents Val) (w : (Rect.unit (s := Line N) off size inb).shape.Idx → Val e) {y : (Line N).Idx}
    (h : off 0 ≤ (y 0).val ∧ (y 0).val < off 0 + size 0) :
    ∃ x, (y 0).val = off 0 + (x 0).val ∧ v.read Val ((v.slice (Rect.unit (s := Line N) off size inb)).write Val f w Finset.univ) y = w x := by
  have hy : y ∈ (Rect.unit (s := Line N) off size inb).set := by rw [unit_set, mem_seg]; exact h
  obtain ⟨x, rfl⟩ := LoadRect.exists_idx_of_mem _ hy
  exact ⟨x, unit_emb x, View.read_slice_write_emb (v := v) _ f w (Finset.mem_univ x)⟩

/-- A write through a slice leaves what lies outside. -/
theorem read_write_out (v : View sig κ sp (Line N) e) {off size : Fin 1 → Nat} {inb : ∀ a, off a + size a ≤ (Line N).size a}
    (f : v.ty.Contents Val) (w : (Rect.unit (s := Line N) off size inb).shape.Idx → Val e) {y : (Line N).Idx}
    (h : (y 0).val < off 0 ∨ off 0 + size 0 ≤ (y 0).val) :
    v.read Val ((v.slice (Rect.unit (s := Line N) off size inb)).write Val f w Finset.univ) y = v.read Val f y := by
  refine View.read_congr_at (v := v) y (View.write_of_not_mem (v := v.slice (Rect.unit (s := Line N) off size inb)) f w (M := Finset.univ) ?_)
  rw [View.setOn_univ, slice_set]
  intro hm
  have := (View.mem_setOn (v := v)).1 hm
  rw [mem_seg] at this; omega

end Views

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}
variable {sp sp' : Space} {e : EltTy} {N N' : Nat}

local notation "𝕄" => MT nD τ sig Ix Val Name U Lvl

/-- The positions `a` up to `b` of a rank-one buffer held in full, each element at `P` of its position. -/
def Strip (c : Thread nD τ) (m : Memref sig c.2.kind sp (Line N) e) (a b : Nat) (P : Nat → Val e → Prop) : sProp 𝕄 :=
  iprop(∃ f : Buf Val (m.view.loc c), ⌜∀ y : (Line N).Idx, a ≤ (y 0).val → (y 0).val < b → P (y 0).val (m.view.read Val f y)⌝
    ∗ m.view.loc c ↦[m.view.setOn (seg N a b)]{fullShare} f)

instance strip_storable (c : Thread nD τ) (m : Memref sig c.2.kind sp (Line N) e) (a b : Nat) (P : Nat → Val e → Prop) :
    Storable (upEmb : UEmb _ 𝕄) (Strip c m a b P) := by unfold Strip; infer_instance

section Pieces

variable (c : Thread nD τ) {m : Memref sig c.2.kind sp (Line N) e} {a k b : Nat} {P P' : Nat → Val e → Prop}

theorem strip_mono (h : ∀ n v, a ≤ n → n < b → P n v → P' n v) : Strip c m a b P ⊢ (Strip c m a b P' : sProp 𝕄) := by
  unfold Strip
  iintro ⟨%f, %hf, H⟩
  iexists f
  isplitr
  · ipureintro; exact fun y h1 h2 => h _ _ h1 h2 (hf y h1 h2)
  · iexact H

theorem strip_split (h1 : a ≤ k) (h2 : k ≤ b) : Strip c m a b P ⊢ (iprop(Strip c m a k P ∗ Strip c m k b P) : sProp 𝕄) := by
  unfold Strip
  iintro ⟨%f, %hf, H⟩
  have hs : m.view.setOn (seg N a b) = m.view.setOn (seg N a k) ∪ m.view.setOn (seg N k b) := by
    rw [seg_union h1 h2]; exact Finset.map_union _ _
  have hd : Disjoint (m.view.setOn (seg N a k)) (m.view.setOn (seg N k b)) := (Finset.disjoint_map _).2 seg_disjoint
  rw [hs]
  ihave ⟨H1, H2⟩ := ((pointsTo_union hd).1) $$ H
  isplitl [H1]
  · iexists f; isplitr
    · ipureintro; exact fun y h h' => hf y h (by omega)
    · iexact H1
  · iexists f; isplitr
    · ipureintro; exact fun y h h' => hf y (by omega) h'
    · iexact H2

theorem strip_join (h1 : a ≤ k) (h2 : k ≤ b) : iprop(Strip c m a k P ∗ Strip c m k b P) ⊢ (Strip c m a b P : sProp 𝕄) := by
  unfold Strip
  iintro ⟨⟨%f, %hf, H1⟩, ⟨%g, %hg, H2⟩⟩
  have hs : m.view.setOn (seg N a b) = m.view.setOn (seg N a k) ∪ m.view.setOn (seg N k b) := by
    rw [seg_union h1 h2]; exact Finset.map_union _ _
  have hd : Disjoint (m.view.setOn (seg N a k)) (m.view.setOn (seg N k b)) := (Finset.disjoint_map _).2 seg_disjoint
  ihave H := (pointsTo_join (ℓ := m.view.loc c) (q := fullShare) (f := f) (g := g) hd) $$ [H1 H2]
  · isplitl [H1] <;> iassumption
  rw [← hs]
  iexists ((m.view.setOn (seg N k b)).piecewise g f)
  isplitr
  · ipureintro
    intro y h h'
    by_cases hy : (y 0).val < k
    · have hn : m.view.emb y ∉ m.view.setOn (seg N k b) := by rw [View.mem_setOn, mem_seg]; omega
      rw [View.read_congr_at (v := m.view) y (Finset.piecewise_eq_of_notMem _ _ _ hn)]
      exact hf y h hy
    · have hn : m.view.emb y ∈ m.view.setOn (seg N k b) := by rw [View.mem_setOn, mem_seg]; omega
      rw [View.read_congr_at (v := m.view) y (Finset.piecewise_eq_of_mem _ _ _ hn)]
      exact hg y (by omega) h'
  · iexact H

end Pieces

section Steps

variable (𝒱 : Variants) (c : Thread nD τ) (bd : Option 𝒱.V) {α : Type} {Q : α → sProp (MT nD τ sig Ix Val Name U Lvl)}

/-- A vector load inside the interval. -/
theorem wp_load_strip {cs : CoreSpace} {m : Memref sig c.2.kind cs (Line N) e} {a b : Nat} {P : Nat → Val e → Prop}
    {off size : Fin 1 → Nat} {inb : ∀ a, off a + size a ≤ (Line N).size a} {hl : m.view.LoadsAt (Rect.unit (s := Line N) off size inb).toLoadRect}
    {k : ((Rect.unit (s := Line N) off size inb).toLoadRect.shape.Idx → Val e) → Prog (TpuEff nD τ sig Val Λ c.2) α}
    (o n : Nat) (ho : off 0 = o) (hn : size 0 = n) (h1 : a ≤ o) (h2 : o + n ≤ b) :
    Strip c m a b P
      ⊢ iprop((∀ w, ⌜∀ x, P (o + (x 0).val) (w x)⌝ -∗ Strip c m a b P -∗ wp frame (wpE defs 𝒱 c bd) Set.univ (k w) Q)
        -∗ wp frame (wpE defs 𝒱 c bd) Set.univ (.op (.load m (Rect.unit (s := Line N) off size inb).toLoadRect hl) k) Q) := by
  subst ho hn
  iintro H Hk
  unfold Strip
  icases H with ⟨%f, %hf, H⟩
  have hsub : m.view.setOn (Rect.unit (s := Line N) off size inb).toLoadRect.set ⊆ m.view.setOn (seg N a b) := by
    refine Finset.map_subset_map.2 fun y hy => ?_
    rw [show y ∈ (Rect.unit (s := Line N) off size inb).toLoadRect.set ↔ y ∈ seg N (off 0) (off 0 + size 0) from by rw [← unit_set], mem_seg] at hy
    rw [mem_seg]; omega
  iapply (wp_load 𝒱 c bd Set.univ hsub) $$ H
  iintro H
  iapply Hk $$ [] [H]
  · ipureintro
    intro x
    have hx : (x 0).val < size 0 := (x 0).isLt
    have := hf ((Rect.unit (s := Line N) off size inb).emb x) (by rw [unit_emb]; omega) (by rw [unit_emb]; omega)
    rw [unit_emb] at this
    exact this
  · iexists f
    isplitr
    · ipureintro; exact hf
    · iexact H

/-- A vector store inside the interval. -/
theorem wp_store_strip {cs : CoreSpace} {m : Memref sig c.2.kind cs (Line N) e} {a b : Nat} {P P' : Nat → Val e → Prop}
    {off size : Fin 1 → Nat} {inb : ∀ a, off a + size a ≤ (Line N).size a}
    {w : (Rect.unit (s := Line N) off size inb).shape.Idx → Val e}
    {hx : (m.access (Rect.unit (s := Line N) off size inb)).Stores Finset.univ}
    {hm : Finset.univ = Finset.univ ∨ ∀ a, (Rect.unit (s := Line N) off size inb).stride a = 1}
    {k : PUnit → Prog (TpuEff nD τ sig Val Λ c.2) α}
    (o n : Nat) (ho : off 0 = o) (hn : size 0 = n) (h1 : a ≤ o) (h2 : o + n ≤ b)
    (hkeep : ∀ i v, a ≤ i → i < b → (i < o ∨ o + n ≤ i) → P i v → P' i v) (hnew : ∀ x, P' (o + (x 0).val) (w x)) :
    Strip c m a b P
      ⊢ iprop((Strip c m a b P' -∗ wp frame (wpE defs 𝒱 c bd) Set.univ (k ⟨⟩) Q)
        -∗ wp frame (wpE defs 𝒱 c bd) Set.univ (.op (.store m (Rect.unit (s := Line N) off size inb) w Finset.univ hx hm) k) Q) := by
  subst ho hn
  iintro H Hk
  unfold Strip
  icases H with ⟨%f, %hf, H⟩
  have hsub : (m.access (Rect.unit (s := Line N) off size inb)).setOn Finset.univ ⊆ m.view.setOn (seg N a b) := by
    rw [View.setOn_univ, slice_set]
    refine Finset.map_subset_map.2 fun y hy => ?_
    rw [mem_seg] at hy ⊢; omega
  iapply (wp_store 𝒱 c bd Set.univ hsub) $$ H
  iintro H
  iapply Hk
  iexists _
  isplitr
  rotate_left
  · iexact H
  · ipureintro
    intro y hy hy'
    by_cases hin : off 0 ≤ (y 0).val ∧ (y 0).val < off 0 + size 0
    · obtain ⟨x, hxy, hw⟩ := read_write_in m.view (inb := inb) f w hin
      rw [hxy]
      exact (congrArg (P' _) hw).mpr (hnew x)
    · have hout := read_write_out m.view (inb := inb) f w (y := y) (by omega)
      exact (congrArg (P' _) hout).mpr (hkeep _ _ hy hy' (by omega) (hf y hy hy'))

variable (EC : UEmb Counters (MT nD τ sig Ix Val Name U Lvl))

/-- A local copy of one interval onto another of the same length. -/
theorem wp_dma_strip [Infinite Name] [EC.LandsIn (upEmb : UEmb _ 𝕄)] {m : Memref sig c.2.kind sp (Line N) e} {m' : Memref sig c.2.kind sp' (Line N') e} {sm : SemLoc sig}
    {off off' size : Fin 1 → Nat} {inb : ∀ a, off a + size a ≤ (Line N).size a} {inb' : ∀ a, off' a + size a ≤ (Line N').size a}
    {hr : ∀ a, (Rect.unit (s := Line N) off size inb).stride a = 1} {hr' : ∀ a, (Rect.unit (s := Line N') off' size inb').stride a = 1}
    {hsrc : (m.slice (Rect.unit (s := Line N) off size inb) hr).view.WordExact} {hdst : (m'.slice (Rect.unit (s := Line N') off' size inb') hr').view.WordExact}
    {hsem : DmaTarget.Typed (nD := nD) sp sm (.here (m'.slice (Rect.unit (s := Line N') off' size inb') hr'))}
    {k : PUnit → Prog (TpuEff nD τ sig Val Λ c.2) α} {P P₀ P' : Nat → Val e → Prop}
    (ι : Ix) (C : ℕ) (hC : (m'.slice (Rect.unit (s := Line N') off' size inb') hr').view.amount sm = C) (hC0 : 0 < C)
    (o o' n : Nat) (ho : off 0 = o) (ho' : off' 0 = o') (hn : size 0 = n)
    (hval : ∀ i v, i < n → P (o + i) v → P' (o' + i) v) :
    iprop(Strip c m o (o + n) P ∗ Strip c m' o' (o' + n) P₀ ∗ semVal (c, sm) 0)
      ⊢ iprop((Transfers.Flight EC c sm ι C iprop(Strip c m' o' (o' + n) P' ∗ Strip c m o (o + n) P) -∗ wp frame (wpE defs 𝒱 c bd) Set.univ (k ⟨⟩) Q)
        -∗ wp frame (wpE defs 𝒱 c bd) Set.univ (.op (.enqueueDmaAs (m.slice (Rect.unit (s := Line N) off size inb) hr)
            (.here (m'.slice (Rect.unit (s := Line N') off' size inb') hr')) ReadAs.same sm hsrc hdst hsem) k) Q) := by
  subst ho ho' hn
  iintro ⟨Hs, Hd, Hv⟩ Hk
  unfold Strip
  icases Hs with ⟨%fs, %hfs, Hs⟩
  icases Hd with ⟨%fd, %hfd, Hd⟩
  rw [← slice_set m.view (inb := inb), ← slice_set m'.view (inb := inb')]
  iapply (Transfers.wp_dmaLocal EC 𝒱 c bd ι C hC hC0 (Finset.Subset.refl _)) $$ [Hs Hd Hv]
  · isplitl [Hs]; · iexact Hs
    isplitl [Hd]; · iexact Hd
    iexact Hv
  iintro Hfl
  iapply Hk
  iapply (Transfers.Flight_mono EC c ?_) $$ Hfl
  iintro ⟨Hd, Hs⟩
  isplitl [Hd]
  · iexists _
    isplitr
    rotate_left
    · iexact Hd
    · ipureintro
      intro y hy hy'
      obtain ⟨x, hxy, hw⟩ := read_write_in m'.view (inb := inb') fd (ReadAs.same.apply ((m.slice (Rect.unit (s := Line N) off size inb) hr).view.read Val fs)) ⟨hy, hy'⟩
      have hx : (x 0).val < size 0 := (x 0).isLt
      have h := hfs ((Rect.unit (s := Line N) off size inb).emb x) (by rw [unit_emb]; omega) (by rw [unit_emb]; omega)
      rw [unit_emb] at h
      rw [hxy]
      exact (congrArg (P' _) hw).mpr (hval _ _ hx h)
  · iexists fs
    isplitr
    · ipureintro; exact hfs
    · iexact Hs

/-- A local copy of an interval of a buffer held whole at some share onto an interval held in full. -/
theorem wp_dma_whole_strip [Infinite Name] [EC.LandsIn (upEmb : UEmb _ 𝕄)] {m : Memref sig c.2.kind sp (Line N) e} {m' : Memref sig c.2.kind sp' (Line N') e} {sm : SemLoc sig}
    {off off' size : Fin 1 → Nat} {inb : ∀ a, off a + size a ≤ (Line N).size a} {inb' : ∀ a, off' a + size a ≤ (Line N').size a}
    {hr : ∀ a, (Rect.unit (s := Line N) off size inb).stride a = 1} {hr' : ∀ a, (Rect.unit (s := Line N') off' size inb').stride a = 1}
    {hsrc : (m.slice (Rect.unit (s := Line N) off size inb) hr).view.WordExact} {hdst : (m'.slice (Rect.unit (s := Line N') off' size inb') hr').view.WordExact}
    {hsem : DmaTarget.Typed (nD := nD) sp sm (.here (m'.slice (Rect.unit (s := Line N') off' size inb') hr'))}
    {k : PUnit → Prog (TpuEff nD τ sig Val Λ c.2) α} {P₀ P' : Nat → Val e → Prop} {q : PosShare TreeShare} {fs : Buf Val (m.view.loc c)}
    (ι : Ix) (C : ℕ) (hC : (m'.slice (Rect.unit (s := Line N') off' size inb') hr').view.amount sm = C) (hC0 : 0 < C)
    (o' n : Nat) (ho' : off' 0 = o') (hn : size 0 = n)
    (hval : ∀ (y : (Line N).Idx) i, i < n → (y 0).val = off 0 + i → P' (o' + i) (m.view.read Val fs y)) :
    iprop((m.view.loc c ↦{q} fs) ∗ Strip c m' o' (o' + n) P₀ ∗ semVal (c, sm) 0)
      ⊢ iprop((Transfers.Flight EC c sm ι C iprop(Strip c m' o' (o' + n) P' ∗ (m.view.loc c ↦{q} fs)) -∗ wp frame (wpE defs 𝒱 c bd) Set.univ (k ⟨⟩) Q)
        -∗ wp frame (wpE defs 𝒱 c bd) Set.univ (.op (.enqueueDmaAs (m.slice (Rect.unit (s := Line N) off size inb) hr)
            (.here (m'.slice (Rect.unit (s := Line N') off' size inb') hr')) ReadAs.same sm hsrc hdst hsem) k) Q) := by
  subst ho' hn
  iintro ⟨Hs, Hd, Hv⟩ Hk
  unfold Strip
  icases Hd with ⟨%fd, %hfd, Hd⟩
  rw [← slice_set m'.view (inb := inb')]
  iapply (Transfers.wp_dmaFromWhole EC 𝒱 c bd ι C hC hC0 (Finset.Subset.refl _)) $$ [Hs Hd Hv]
  · isplitl [Hs]; · iexact Hs
    isplitl [Hd]; · iexact Hd
    iexact Hv
  iintro Hfl
  iapply Hk
  iapply (Transfers.Flight_mono EC c ?_) $$ Hfl
  iintro ⟨Hd, Hs⟩
  isplitl [Hd]
  · iexists _
    isplitr
    rotate_left
    · iexact Hd
    · ipureintro
      intro y hy hy'
      obtain ⟨x, hxy, hw⟩ := read_write_in m'.view (inb := inb') fd (ReadAs.same.apply ((m.slice (Rect.unit (s := Line N) off size inb) hr).view.read Val fs)) ⟨hy, hy'⟩
      rw [hxy]
      exact (congrArg (P' _) hw).mpr (hval _ _ (x 0).isLt (unit_emb (off := off) (inb := inb) x))
  · iexact Hs

/-- A local copy of an interval of a buffer held whole at some share onto the whole of another. -/
theorem wp_dma_whole_all [Infinite Name] [EC.LandsIn (upEmb : UEmb _ 𝕄)] {n : Nat} {m : Memref sig c.2.kind sp (Line N) e} {m' : Memref sig c.2.kind sp' (Line n) e} {sm : SemLoc sig}
    {off : Fin 1 → Nat} {inb : ∀ a, off a + (Line n).size a ≤ (Line N).size a} {hr : ∀ a, (Rect.unit (s := Line N) off (Line n).size inb).stride a = 1}
    {hsrc : (m.slice (Rect.unit (s := Line N) off (Line n).size inb) hr).view.WordExact} {hdst : m'.view.WordExact} {hsem : DmaTarget.Typed (nD := nD) sp sm (.here m')}
    {k : PUnit → Prog (TpuEff nD τ sig Val Λ c.2) α} {P₀ P' : Nat → Val e → Prop} {q : PosShare TreeShare} {fs : Buf Val (m.view.loc c)}
    (ι : Ix) (C : ℕ) (hC : m'.view.amount sm = C) (hC0 : 0 < C)
    (hval : ∀ (y : (Line N).Idx) i, i < n → (y 0).val = off 0 + i → P' i (m.view.read Val fs y)) :
    iprop((m.view.loc c ↦{q} fs) ∗ Strip c m' 0 n P₀ ∗ semVal (c, sm) 0)
      ⊢ iprop((Transfers.Flight EC c sm ι C iprop(Strip c m' 0 n P' ∗ (m.view.loc c ↦{q} fs)) -∗ wp frame (wpE defs 𝒱 c bd) Set.univ (k ⟨⟩) Q)
        -∗ wp frame (wpE defs 𝒱 c bd) Set.univ (.op (.enqueueDmaAs (m.slice (Rect.unit (s := Line N) off (Line n).size inb) hr)
            (.here m') ReadAs.same sm hsrc hdst hsem) k) Q) := by
  iintro ⟨Hs, Hd, Hv⟩ Hk
  unfold Strip
  icases Hd with ⟨%fd, %hfd, Hd⟩
  rw [seg_all]
  iapply (Transfers.wp_dmaFromWhole EC 𝒱 c bd ι C hC hC0 (Finset.Subset.refl _)) $$ [Hs Hd Hv]
  · isplitl [Hs]; · iexact Hs
    isplitl [Hd]; · iexact Hd
    iexact Hv
  iintro Hfl
  iapply Hk
  iapply (Transfers.Flight_mono EC c ?_) $$ Hfl
  iintro ⟨Hd, Hs⟩
  isplitl [Hd]
  · iexists _
    isplitr
    rotate_left
    · iexact Hd
    · ipureintro
      intro y _ hy
      rw [View.read_write_univ]
      exact hval _ _ hy (unit_emb (off := off) (inb := inb) y)
  · iexact Hs

/-- A local copy of the whole of one buffer onto an interval of another. -/
theorem wp_dma_all_strip [Infinite Name] [EC.LandsIn (upEmb : UEmb _ 𝕄)] {n : Nat} {m : Memref sig c.2.kind sp (Line n) e} {m' : Memref sig c.2.kind sp' (Line N') e} {sm : SemLoc sig}
    {off' : Fin 1 → Nat} {inb' : ∀ a, off' a + (Line n).size a ≤ (Line N').size a} {hr' : ∀ a, (Rect.unit (s := Line N') off' (Line n).size inb').stride a = 1}
    {hsrc : m.view.WordExact} {hdst : (m'.slice (Rect.unit (s := Line N') off' (Line n).size inb') hr').view.WordExact}
    {hsem : DmaTarget.Typed (nD := nD) sp sm (.here (m'.slice (Rect.unit (s := Line N') off' (Line n).size inb') hr'))}
    {k : PUnit → Prog (TpuEff nD τ sig Val Λ c.2) α} {P P₀ P' : Nat → Val e → Prop}
    (ι : Ix) (C : ℕ) (hC : (m'.slice (Rect.unit (s := Line N') off' (Line n).size inb') hr').view.amount sm = C) (hC0 : 0 < C)
    (o' : Nat) (ho' : off' 0 = o') (hval : ∀ i v, i < n → P i v → P' (o' + i) v) :
    iprop(Strip c m 0 n P ∗ Strip c m' o' (o' + n) P₀ ∗ semVal (c, sm) 0)
      ⊢ iprop((Transfers.Flight EC c sm ι C iprop(Strip c m' o' (o' + n) P' ∗ Strip c m 0 n P) -∗ wp frame (wpE defs 𝒱 c bd) Set.univ (k ⟨⟩) Q)
        -∗ wp frame (wpE defs 𝒱 c bd) Set.univ (.op (.enqueueDmaAs m
            (.here (m'.slice (Rect.unit (s := Line N') off' (Line n).size inb') hr')) ReadAs.same sm hsrc hdst hsem) k) Q) := by
  subst ho'
  iintro ⟨Hs, Hd, Hv⟩ Hk
  unfold Strip
  icases Hs with ⟨%fs, %hfs, Hs⟩
  icases Hd with ⟨%fd, %hfd, Hd⟩
  rw [seg_all, show m'.view.setOn (seg N' (off' 0) (off' 0 + n)) = (m'.view.slice (Rect.unit (s := Line N') off' (Line n).size inb')).set from (slice_set m'.view (inb := inb')).symm]
  iapply (Transfers.wp_dmaLocal EC 𝒱 c bd ι C hC hC0 (Finset.Subset.refl _)) $$ [Hs Hd Hv]
  · isplitl [Hs]; · iexact Hs
    isplitl [Hd]; · iexact Hd
    iexact Hv
  iintro Hfl
  iapply Hk
  iapply (Transfers.Flight_mono EC c ?_) $$ Hfl
  iintro ⟨Hd, Hs⟩
  isplitl [Hd]
  · iexists _
    isplitr
    rotate_left
    · iexact Hd
    · ipureintro
      intro y hy hy'
      obtain ⟨x, hxy, hw⟩ := read_write_in m'.view (inb := inb') fd (ReadAs.same.apply (m.view.read Val fs)) ⟨hy, hy'⟩
      rw [hxy]
      exact (congrArg (P' _) hw).mpr (hval _ _ (x 0).isLt (hfs x (Nat.zero_le _) (x 0).isLt))
  · iexists fs
    isplitr
    · ipureintro; exact hfs
    · iexact Hs

end Steps

end Cert.Proof.Strip
-- ==== Proof.Setup.lean ====
/-
  The kernel as its launch sees it: the program's constants, the ghost state, the arrays and the tiles' scratch
  buffers under short names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Pay
public import proofs.«01_k».proof.Proof.Strip

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and beside them the copies' counters. -/
abbrev UH : Type := URounds (GSem nD τ sig) ℕ
abbrev UU : Type := UH × Counters

abbrev EH : Emb UH (MT nD τ sig (HIx 1) (Elt F) ℕ UU ℕ) := embL

/-! ## The arrays and the tiles' buffers -/

abbrev xM : Memref sig .scVector .hbm S3987456 .f32 := Memref.whole main_v1_scv
abbrev onM : Memref sig .scVector .hbm S128 .f32 := Memref.whole main_arg1_scv
abbrev wsM : Memref sig .scVector .hbm S128 .f32 := Memref.whole main_arg2_scv
abbrev oM : Memref sig .scVector .hbm S7864320 .f32 := Memref.whole main_v2_0_scv
abbrev nM : Memref sig .scVector .hbm S128 .i32 := Memref.whole main_v2_1_scv
abbrev inB : Memref sig .scVector .vmem S62304 .f32 := Memref.whole cc0_scratch0
abbrev outB : Memref sig .scVector .vmem S61440 .f32 := Memref.whole cc0_scratch1
abbrev onB : Memref sig .scVector .vmem S16 .f32 := Memref.whole cc0_scratch2
abbrev wsB : Memref sig .scVector .vmem S16 .f32 := Memref.whole cc0_scratch3
abbrev nB : Memref sig .scVector .vmem S16 .i32 := Memref.whole cc0_scratch4

abbrev cV (L : grid0.Coords) : Fin τ.nSC := (L 0).castLE hcore0
abbrev jV (L : grid0.Coords) : Fin τ.nSub := (L 1).castLE hsub0

/-- The thread of tile `L` of device `d`. -/
abbrev tile (d : Dev nD) (L : grid0.Coords) : Thread nD τ := V d (cV L) (jV L)

end Cert.Proof.Setup

end
-- ==== Proof.Rows.lean ====
/-
  The kernel's inner loops: the rows of one patch copied out of the staging buffer sixteen elements at a time, the rows
  of a patch before the signal zeroed, and the patches of either half of the output buffer.
-/
module

public import proofs.«01_k».proof.Proof.Setup

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Setup Cert.Proof.Pay Cert.Proof.Words Cert.Proof.Strip

variable {F : FTy → Type} [FloatOps F]

local notation "𝕄" => MT nD τ sig (HIx 1) (Elt F) ℕ UU ℕ

/-- Half `h` of the staging buffer holds batch `b` of the signal. -/
def XAt (fx : FVec F S3987456 .f32) (b h n : Nat) (w : F .f32) : Prop := w = rd fx (b * 31152 + (n - h * 31152))

/-- The first `q` elements of batch `b`'s patches are right. -/
def Upto (fx : FVec F S3987456 .f32) (v : BitVec 32) (b q n : Nat) (w : F .f32) : Prop := n < q → LGood fx v b n w

section

variable (d : Dev nD) (L : grid0.Coords) (fx : FVec F S3987456 .f32) (v : BitVec 32) (b h : Nat)

/-- The staging buffer's half `h`, holding batch `b`. -/
abbrev Staged : sProp 𝕄 := Strip (tile d L) inB (h * 31152) (h * 31152 + 31152) (XAt fx b h)

/-- The output buffer from `a` to `e`, right up to `q`. -/
abbrev Filled (a e q : Nat) : sProp 𝕄 := Strip (tile d L) outB a e (Upto fx v b q)

variable {α : Type} {Q : α → sProp (MT nD τ sig (HIx 1) (Elt F) ℕ UU ℕ)}

/-- Sixteen elements of row `c` of patch `p` copied out of the staging buffer. -/
theorem copy_group {off7 off8 : Fin 1 → Nat} {inb7 : ∀ a, off7 a + S16.size a ≤ S62304.size a} {inb8 : ∀ a, off8 a + S16.size a ≤ S61440.size a}
    {hl7 : inB.view.LoadsAt (Rect.unit (s := S62304) off7 S16.size inb7).toLoadRect} {hl8 : outB.view.LoadsAt (Rect.unit (s := S61440) off8 S16.size inb8).toLoadRect}
    {hst : (outB.access (Rect.unit (s := S61440) off8 S16.size inb8)).Stores Finset.univ}
    {hm : Finset.univ = Finset.univ ∨ ∀ a, (Rect.unit (s := S61440) off8 S16.size inb8).stride a = 1}
    {k : PUnit → Prog (TpuEff nD τ sig (Elt F) Λ₀ (tile d L).2) α}
    (a e p c r : Nat) (hp : 0 ≤ startAt v p) (hp1 : startAt v p ≤ 1300) (hc : c < 22) (hr : r < 7)
    (h7 : off7 0 = h * 31152 + c * 1416 + (startAt v p).toNat + 16 * r) (h8 : off8 0 = 3072 * p + 128 * c + 16 * r)
    (ha : a ≤ 3072 * p + 128 * c) (he : 3072 * p + 128 * c + 128 ≤ e) :
    iprop(Staged d L fx b h ∗ Filled d L fx v b a e (3072 * p + 128 * c + 16 * r))
      ⊢ iprop((iprop(Staged d L fx b h ∗ Filled d L fx v b a e (3072 * p + 128 * c + 16 * (r + 1))) -∗ wp frame (wpE (defs₀ (F := F)) 𝒱₀ (tile d L) none) Set.univ (k ⟨⟩) Q)
        -∗ wp frame (wpE (defs₀ (F := F)) 𝒱₀ (tile d L) none) Set.univ
          (.op (.load inB (Rect.unit (s := S62304) off7 S16.size inb7).toLoadRect hl7) fun w =>
            .op (.load outB (Rect.unit (s := S61440) off8 S16.size inb8).toLoadRect hl8) fun _ =>
              .op (.store outB (Rect.unit (s := S61440) off8 S16.size inb8) w Finset.univ hst hm) k) Q) := by
  iintro ⟨Hx, Ho⟩ Hk
  iapply (wp_load_strip (defs := defs₀ (F := F)) 𝒱₀ (tile d L) none _ 16 h7 rfl (by omega) (by omega)) $$ Hx
  iintro %w %hw Hx
  iapply (wp_load_strip (defs := defs₀ (F := F)) 𝒱₀ (tile d L) none _ 16 h8 rfl (by omega) (by omega)) $$ Ho
  iintro %w' - Ho
  iapply (wp_store_strip (defs := defs₀ (F := F)) 𝒱₀ (tile d L) none (P' := Upto fx v b (3072 * p + 128 * c + 16 * (r + 1))) _ 16 h8 rfl (by omega) (by omega) ?_ ?_) $$ Ho
  · intro i u _ _ ho hu hi
    exact hu (by omega)
  · intro x _ _ _
    have hx : (x 0).val < 16 := (x 0).isLt
    rw [hw x]
    unfold out
    have e1 : (3072 * p + 128 * c + 16 * r + (x 0).val) / 3072 = p := by omega
    have e2 : (3072 * p + 128 * c + 16 * r + (x 0).val) / 128 % 24 = c := by omega
    have e3 : (3072 * p + 128 * c + 16 * r + (x 0).val) % 128 = 16 * r + (x 0).val := by omega
    rw [e1, if_pos hp, e2, e3]
    exact congrArg (rd fx) (by omega)
  iintro Ho
  iapply Hk
  isplitl [Hx] <;> iassumption

/-- The end of a row: its last elements are padding. -/
theorem row_end (a e p c : Nat) :
    Filled d L fx v b a e (3072 * p + 128 * c + 16 * 7) ⊢ (Filled d L fx v b a e (3072 * p + 128 * (c + 1)) : sProp 𝕄) :=
  strip_mono (tile d L) fun n w _ _ hu hn h1 h2 => hu (by omega) h1 h2

/-- The end of a patch: its last two rows are padding. -/
theorem patch_end (a e p : Nat) :
    Filled d L fx v b a e (3072 * p + 128 * 22) ⊢ (Filled d L fx v b a e (3072 * (p + 1)) : sProp 𝕄) :=
  strip_mono (tile d L) fun n w _ _ hu hn h1 h2 => hu (by omega) h1 h2

/-- Sixteen zeroed elements of row `c` of patch `p`, a patch before the signal. -/
theorem zero_group {off8 : Fin 1 → Nat} {inb8 : ∀ a, off8 a + S16.size a ≤ S61440.size a}
    {hl8 : outB.view.LoadsAt (Rect.unit (s := S61440) off8 S16.size inb8).toLoadRect}
    {hst : (outB.access (Rect.unit (s := S61440) off8 S16.size inb8)).Stores Finset.univ}
    {hm : Finset.univ = Finset.univ ∨ ∀ a, (Rect.unit (s := S61440) off8 S16.size inb8).stride a = 1}
    {w : (Rect.unit (s := S61440) off8 S16.size inb8).shape.Idx → Elt F .f32} {k : PUnit → Prog (TpuEff nD τ sig (Elt F) Λ₀ (tile d L).2) α}
    (a e p c r : Nat) (hw : ∀ x, w x = zero) (hp : ¬ 0 ≤ startAt v p) (hc : c < 22) (hr : r < 7)
    (h8 : off8 0 = 3072 * p + 128 * c + 16 * r) (ha : a ≤ 3072 * p + 128 * c) (he : 3072 * p + 128 * c + 128 ≤ e) :
    Filled d L fx v b a e (3072 * p + 128 * c + 16 * r)
      ⊢ iprop((Filled d L fx v b a e (3072 * p + 128 * c + 16 * (r + 1)) -∗ wp frame (wpE (defs₀ (F := F)) 𝒱₀ (tile d L) none) Set.univ (k ⟨⟩) Q)
        -∗ wp frame (wpE (defs₀ (F := F)) 𝒱₀ (tile d L) none) Set.univ
          (.op (.load outB (Rect.unit (s := S61440) off8 S16.size inb8).toLoadRect hl8) fun _ =>
            .op (.store outB (Rect.unit (s := S61440) off8 S16.size inb8) w Finset.univ hst hm) k) Q) := by
  iintro Ho Hk
  iapply (wp_load_strip (defs := defs₀ (F := F)) 𝒱₀ (tile d L) none _ 16 h8 rfl (by omega) (by omega)) $$ Ho
  iintro %w' - Ho
  iapply (wp_store_strip (defs := defs₀ (F := F)) 𝒱₀ (tile d L) none (P' := Upto fx v b (3072 * p + 128 * c + 16 * (r + 1))) _ 16 h8 rfl (by omega) (by omega) ?_ ?_) $$ Ho
  · intro i u _ _ ho hu hi
    exact hu (by omega)
  · intro x _ _ _
    have hx : (x 0).val < 16 := (x 0).isLt
    rw [hw x]
    unfold out
    have e1 : (3072 * p + 128 * c + 16 * r + (x 0).val) / 3072 = p := by omega
    rw [e1, if_neg hp]
  iexact Hk

/-! ## The patches from the onset's second on: the later half -/

/-- One row of a patch of the later half. -/
theorem t7_trip (h0 : -200 < v.toInt) (h1 : v.toInt < 200) (t : Fin k0_t2_loop.trips) (hw : k0_chk1 t v) (k : Fin k0_t6_loop.trips) (a16 v300 v301 : BitVec 32) (c : Fin k0_t7_loop.trips) :
    iprop(Staged d L fx b (t.val % 2) ∗ Filled d L fx v b 30720 61440 (3072 * (10 + k.val) + 128 * c.val))
      ⊢ wp frame (wpE (defs₀ (F := F)) 𝒱₀ (tile d L) none) Set.univ
          (k0_t7_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 t v hw k a16 v300 v301 c ())
          fun _ => iprop(Staged d L fx b (t.val % 2) ∗ Filled d L fx v b 30720 61440 (3072 * (10 + k.val) + 128 * (c.val + 1))) := by
  unfold k0_t7_body
  simp only [k0_part2_eq_skeleton]
  unfold k0_part2_skel
  simp only [Prog.lift, Prog.bind_op, Prog.bind_ret, pure_bind, bind_assoc]
  have hc := t7_lt c
  have hk := t6_lt k
  have hs : startAt v (10 + k.val) = v.toInt + ((10 + k.val : Nat) - 8 : Int) * 100 := rfl
  have h7 : ∀ r : Fin 7, k0_off11 t v k c (BitVec.ofNat 32 (16 * r.val)) 0 = t.val % 2 * 31152 + c.val * 1416 + (startAt v (10 + k.val)).toNat + 16 * r.val :=
    fun r => congrFun (off11_eq h0 h1 t k c r) 0
  have h8 : ∀ r : Fin 7, k0_off12 k c (BitVec.ofNat 32 (16 * r.val)) 0 = 3072 * (10 + k.val) + 128 * c.val + 16 * r.val :=
    fun r => (congrFun (k0_off12_eq k c r) 0).trans (show 3072 * k.val + 128 * c.val + 16 * r.val + 30720 = _ by omega)
  have hp : 0 ≤ startAt v (10 + k.val) := by omega
  have hp1 : startAt v (10 + k.val) ≤ 1300 := by omega
  iintro H
  iapply (copy_group d L fx v b _ 30720 61440 (10 + k.val) c.val 0 hp hp1 hc (by omega) (h7 0) (h8 0) (by omega) (by omega)) $$ H
  iintro H
  iapply (copy_group d L fx v b _ 30720 61440 (10 + k.val) c.val 1 hp hp1 hc (by omega) (h7 1) (h8 1) (by omega) (by omega)) $$ H
  iintro H
  iapply (copy_group d L fx v b _ 30720 61440 (10 + k.val) c.val 2 hp hp1 hc (by omega) (h7 2) (h8 2) (by omega) (by omega)) $$ H
  iintro H
  iapply (copy_group d L fx v b _ 30720 61440 (10 + k.val) c.val 3 hp hp1 hc (by omega) (h7 3) (h8 3) (by omega) (by omega)) $$ H
  iintro H
  iapply (copy_group d L fx v b _ 30720 61440 (10 + k.val) c.val 4 hp hp1 hc (by omega) (h7 4) (h8 4) (by omega) (by omega)) $$ H
  iintro H
  iapply (copy_group d L fx v b _ 30720 61440 (10 + k.val) c.val 5 hp hp1 hc (by omega) (h7 5) (h8 5) (by omega) (by omega)) $$ H
  iintro H
  iapply (copy_group d L fx v b _ 30720 61440 (10 + k.val) c.val 6 hp hp1 hc (by omega) (h7 6) (h8 6) (by omega) (by omega)) $$ H
  iintro H
  sl_step
  icases H with ⟨Hx, Ho⟩
  isplitl [Hx]; · iexact Hx
  iapply (row_end d L fx v b); iexact Ho

/-- One patch of the later half. -/
theorem t6_trip (h0 : -200 < v.toInt) (h1 : v.toInt < 200) (t : Fin k0_t2_loop.trips) (hw : k0_chk1 t v) (v276 : BitVec 32) (k : Fin k0_t6_loop.trips) :
    iprop(Staged d L fx b (t.val % 2) ∗ Filled d L fx v b 30720 61440 (3072 * (10 + k.val)))
      ⊢ wp frame (wpE (defs₀ (F := F)) 𝒱₀ (tile d L) none) Set.univ
          (k0_t6_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 t v hw v276 k ())
          fun _ => iprop(Staged d L fx b (t.val % 2) ∗ Filled d L fx v b 30720 61440 (3072 * (10 + (k.val + 1)))) := by
  unfold k0_t6_body
  iintro H
  sl_exec
  sl_for (fun c (_ : Unit) => iprop(Staged d L fx b (t.val % 2) ∗ Filled d L fx v b 30720 61440 (3072 * (10 + k.val) + 128 * c))) $$ [H]
  case region =>
    intro c _
    exact t7_trip d L fx v b h0 h1 t hw k _ _ _ c
  · iexact H
  iintro %_ H
  sl_exec
  sl_step
  icases H with ⟨Hx, Ho⟩
  isplitl [Hx]; · iexact Hx
  iapply (patch_end d L fx v b 30720 61440 (10 + k.val)); iexact Ho

/-! ## The patches around the onset: the end of the first half -/

/-- One copied row of a patch of the first half. -/
theorem t4_trip (h0 : -200 < v.toInt) (h1 : v.toInt < 200) (v29 v31 : BitVec 32) (v45 v46 v47 : IVec S16 32) (v241 : FVec F S16 .f32) (w0 w1 : BitVec 32) (t : Fin k0_t2_loop.trips) (hw : k0_chk1 t v) (k : Fin k0_t3_loop.trips) (hp : 0 ≤ startAt v (7 + k.val)) (a16 v300 : BitVec 32)
    (hk4 : k0_cond4 v k = 1#1) (v307 : BitVec 32) (c : Fin k0_t4_loop.trips) :
    iprop(Staged d L fx b (t.val % 2) ∗ Filled d L fx v b 0 30720 (3072 * (7 + k.val) + 128 * c.val))
      ⊢ wp frame (wpE (defs₀ (F := F)) 𝒱₀ (tile d L) none) Set.univ
          (k0_t4_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v29 v31 v45 v46 v47 v241 w0 w1 t v hw k a16 v300 hk4 v307 c ())
          fun _ => iprop(Staged d L fx b (t.val % 2) ∗ Filled d L fx v b 0 30720 (3072 * (7 + k.val) + 128 * (c.val + 1))) := by
  unfold k0_t4_body
  simp only [k0_part1_eq_skeleton]
  unfold k0_part1_skel
  simp only [Prog.lift, Prog.bind_op, Prog.bind_ret, pure_bind, bind_assoc]
  have hc := t4_lt c
  have hk := t3_lt k
  have hs : startAt v (7 + k.val) = v.toInt + ((7 + k.val : Nat) - 8 : Int) * 100 := rfl
  have h7 : ∀ r : Fin 7, k0_off7 t v k c (BitVec.ofNat 32 (16 * r.val)) 0 = t.val % 2 * 31152 + c.val * 1416 + (startAt v (7 + k.val)).toNat + 16 * r.val :=
    fun r => congrFun (off7_eq h0 h1 t k c hp r) 0
  have h8 : ∀ r : Fin 7, k0_off8 k c (BitVec.ofNat 32 (16 * r.val)) 0 = 3072 * (7 + k.val) + 128 * c.val + 16 * r.val :=
    fun r => (congrFun (k0_off8_eq k c r) 0).trans (show 3072 * k.val + 128 * c.val + 16 * r.val + 21504 = _ by omega)
  have hp1 : startAt v (7 + k.val) ≤ 1300 := by omega
  iintro H
  iapply (copy_group d L fx v b _ 0 30720 (7 + k.val) c.val 0 hp hp1 hc (by omega) (h7 0) (h8 0) (by omega) (by omega)) $$ H
  iintro H
  iapply (copy_group d L fx v b _ 0 30720 (7 + k.val) c.val 1 hp hp1 hc (by omega) (h7 1) (h8 1) (by omega) (by omega)) $$ H
  iintro H
  iapply (copy_group d L fx v b _ 0 30720 (7 + k.val) c.val 2 hp hp1 hc (by omega) (h7 2) (h8 2) (by omega) (by omega)) $$ H
  iintro H
  iapply (copy_group d L fx v b _ 0 30720 (7 + k.val) c.val 3 hp hp1 hc (by omega) (h7 3) (h8 3) (by omega) (by omega)) $$ H
  iintro H
  iapply (copy_group d L fx v b _ 0 30720 (7 + k.val) c.val 4 hp hp1 hc (by omega) (h7 4) (h8 4) (by omega) (by omega)) $$ H
  iintro H
  iapply (copy_group d L fx v b _ 0 30720 (7 + k.val) c.val 5 hp hp1 hc (by omega) (h7 5) (h8 5) (by omega) (by omega)) $$ H
  iintro H
  iapply (copy_group d L fx v b _ 0 30720 (7 + k.val) c.val 6 hp hp1 hc (by omega) (h7 6) (h8 6) (by omega) (by omega)) $$ H
  iintro H
  sl_step
  icases H with ⟨Hx, Ho⟩
  isplitl [Hx]; · iexact Hx
  iapply (row_end d L fx v b); iexact Ho

/-- One zeroed row of a patch of the first half. -/
theorem t5_trip (v29 v31 : BitVec 32) (v45 v46 v47 : IVec S16 32) (v241 : FVec F S16 .f32) (w0 w1 : BitVec 32) (hz : ∀ x, v241 x = zero) (t : Fin k0_t2_loop.trips) (k : Fin k0_t3_loop.trips) (hp : ¬ 0 ≤ startAt v (7 + k.val)) (c : Fin k0_t5_loop.trips) :
    Filled d L fx v b 0 30720 (3072 * (7 + k.val) + 128 * c.val)
      ⊢ wp frame (wpE (defs₀ (F := F)) 𝒱₀ (tile d L) none) Set.univ
          (k0_t5_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v29 v31 v45 v46 v47 v241 w0 w1 t k c ())
          fun _ => Filled d L fx v b 0 30720 (3072 * (7 + k.val) + 128 * (c.val + 1)) := by
  unfold k0_t5_body
  simp only [Prog.lift, Prog.bind_op, Prog.bind_ret, pure_bind, bind_assoc]
  have hc := t5_lt c
  have hk := t3_lt k
  have h8 : ∀ r : Fin 7, k0_off9 k c (BitVec.ofNat 32 (16 * r.val)) 0 = 3072 * (7 + k.val) + 128 * c.val + 16 * r.val :=
    fun r => (congrFun (k0_off9_eq k c r) 0).trans (show 3072 * k.val + 128 * c.val + 16 * r.val + 21504 = _ by omega)
  iintro H
  iapply (zero_group d L fx v b 0 30720 (7 + k.val) c.val 0 hz hp hc (by omega) (h8 0) (by omega) (by omega)) $$ H
  iintro H
  iapply (zero_group d L fx v b 0 30720 (7 + k.val) c.val 1 hz hp hc (by omega) (h8 1) (by omega) (by omega)) $$ H
  iintro H
  iapply (zero_group d L fx v b 0 30720 (7 + k.val) c.val 2 hz hp hc (by omega) (h8 2) (by omega) (by omega)) $$ H
  iintro H
  iapply (zero_group d L fx v b 0 30720 (7 + k.val) c.val 3 hz hp hc (by omega) (h8 3) (by omega) (by omega)) $$ H
  iintro H
  iapply (zero_group d L fx v b 0 30720 (7 + k.val) c.val 4 hz hp hc (by omega) (h8 4) (by omega) (by omega)) $$ H
  iintro H
  iapply (zero_group d L fx v b 0 30720 (7 + k.val) c.val 5 hz hp hc (by omega) (h8 5) (by omega) (by omega)) $$ H
  iintro H
  iapply (zero_group d L fx v b 0 30720 (7 + k.val) c.val 6 hz hp hc (by omega) (h8 6) (by omega) (by omega)) $$ H
  iintro H
  sl_step
  iapply (row_end d L fx v b); iexact H

/-- One patch of the first half: copied where it starts inside the signal, else zeroed. -/
theorem t3_trip (h0 : -200 < v.toInt) (h1 : v.toInt < 200) (v29 v31 : BitVec 32) (v45 v46 v47 : IVec S16 32) (v241 : FVec F S16 .f32) (w0 w1 : BitVec 32) (hz : ∀ x, v241 x = zero) (t : Fin k0_t2_loop.trips) (hw : k0_chk1 t v) (v276 : BitVec 32) (k : Fin k0_t3_loop.trips) :
    iprop(Staged d L fx b (t.val % 2) ∗ Filled d L fx v b 0 30720 (3072 * (7 + k.val)))
      ⊢ wp frame (wpE (defs₀ (F := F)) 𝒱₀ (tile d L) none) Set.univ
          (k0_t3_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v29 v31 v45 v46 v47 v241 w0 w1 t v hw v276 k ())
          fun _ => iprop(Staged d L fx b (t.val % 2) ∗ Filled d L fx v b 0 30720 (3072 * (7 + (k.val + 1)))) := by
  unfold k0_t3_body
  have k0_h4 := cond4_iff h0 h1 k
  have k0_h5 := cond4_not h0 h1 k
  by_cases hp : 0 ≤ startAt v (7 + k.val)
  · have c4 := k0_h4.2 hp
    have c5 : ¬ _ := fun e => (k0_h5.1 e) hp
    dsimp only
    simp only [dif_pos c4, if_neg c5]
    iintro H
    sl_exec
    sl_for (fun c (_ : Unit) => iprop(Staged d L fx b (t.val % 2) ∗ Filled d L fx v b 0 30720 (3072 * (7 + k.val) + 128 * c))) $$ [H]
    case region =>
      intro c _
      exact t4_trip d L fx v b h0 h1 _ _ _ _ _ _ _ _ t hw k hp _ _ _ _ c
    · iexact H
    iintro %_ H
    sl_exec
    sl_step
    icases H with ⟨Hx, Ho⟩
    isplitl [Hx]; · iexact Hx
    iapply (patch_end d L fx v b 0 30720 (7 + k.val)); iexact Ho
  · have c4 := fun e => hp (k0_h4.1 e)
    have c5 := k0_h5.2 hp
    dsimp only
    simp only [dif_neg c4, if_pos c5]
    iintro ⟨Hx, Ho⟩
    sl_exec
    sl_for (fun c (_ : Unit) => Filled d L fx v b 0 30720 (3072 * (7 + k.val) + 128 * c)) $$ [Ho]
    case region =>
      intro c _
      exact t5_trip d L fx v b _ _ _ _ _ _ _ _ hz t k hp c
    · iexact Ho
    iintro %_ Ho
    sl_exec
    sl_step
    isplitl [Hx]; · iexact Hx
    iapply (patch_end d L fx v b 0 30720 (7 + k.val)); iexact Ho

end

end Cert.Proof.Rows

end
-- ==== Proof.Trip.lean ====
/-
  One trip of a tile's loop over its four batches: the batch's signal awaited and the next one's copy started, and either
  half of the output buffer awaited, filled and sent off.
-/
module

public import proofs.«01_k».proof.Proof.Rows

@[expose] public section

noncomputable section

namespace Cert.Proof.Trip

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Setup Cert.Proof.Pay Cert.Proof.Words Cert.Proof.Strip Cert.Proof.Rows

variable {F : FTy → Type} [FloatOps F]

local notation "𝕄" => MT nD τ sig (HIx 1) (Elt F) ℕ UU ℕ

/-- The patches before the signal hold zeros, whatever the batch. -/
def Early (n : Nat) (w : F .f32) : Prop := n < 21504 → n % 128 < 100 → n / 128 % 24 < 22 → w = zero

/-- The amounts the copies move. -/
def cIn : ℕ := inB.view.ref.dmaCredit S31152 .f32
def cOut : ℕ := oM.view.ref.dmaCredit S30720 .f32

theorem cIn_pos : 0 < cIn := sig.dmaCredit_pos _ _ _ _ _ (by decide)
theorem cOut_pos : 0 < cOut := sig.dmaCredit_pos _ _ _ _ _ (by decide)

section

variable (d : Dev nD) (L : grid0.Coords) (fx : FVec F S3987456 .f32) (on : IVec S128 32) (q : PosShare TreeShare)
variable (O : CellTallies nD τ sig (HIx 1)) (W : Waits sig (HIx 1))

/-- The signal, read at share `q`. -/
abbrev Signal : sProp 𝕄 := xM.view.loc (tile d L) ↦{q} fx

/-- Half `h` of the staging buffer, whatever it holds. -/
abbrev Spare (h : Nat) : sProp 𝕄 := Strip (tile d L) inB (h * 31152) (h * 31152 + 31152) (fun _ _ => True)

/-- What the tile owes, with the waits of this launch allowed in its record. -/
def Owing : sProp 𝕄 := iprop(∃ W' : Waits sig (HIx 1), ⌜∀ p ∈ W', p ∈ W ∨ p.2 = none⌝ ∗ owes (tile d L) O W')

/-- The staging half of trip `t`: on its way, or after the last trip free again. -/
def Coming (t : Nat) : sProp 𝕄 :=
  if t < 4 then Transfers.Flight countersEmb (tile d L) (.dma cc0_scratch5.sem) (default : HIx 1) cIn iprop(Staged d L fx (4 * wid L + t) (t % 2) ∗ Signal d L fx q)
  else iprop(semVal (tile d L, .dma cc0_scratch5.sem) 0 ∗ Spare d L (t % 2) ∗ Signal d L fx q)

/-- The piece of the results a half of batch `b` fills. -/
abbrev Piece (b a : Nat) : sProp 𝕄 := Strip (tile d L) oM (b * 61440 + a) (b * 61440 + a + 30720) (Good fx on)

/-- Half `a` of the output buffer before trip `t`: zeroed, or on its way out with the batch before. -/
def Going (sem : DmaSem sig) (a t : Nat) : sProp 𝕄 :=
  if t = 0 then iprop(semVal (tile d L, .dma sem) 0 ∗ Strip (tile d L) outB a (a + 30720) Early)
  else Transfers.Flight countersEmb (tile d L) (.dma sem) (default : HIx 1) cOut iprop(Piece d L fx on (4 * wid L + (t - 1)) a ∗ Strip (tile d L) outB a (a + 30720) Early)

/-- What the wait for half `a` brings in: the piece of the batch before, if there is one. -/
def Landed (a t : Nat) : sProp 𝕄 := if t = 0 then iprop(emp) else Piece d L fx on (4 * wid L + (t - 1)) a

variable {α : Type} {Q : α → sProp (MT nD τ sig (HIx 1) (Elt F) ℕ UU ℕ)}

/-- A wait on one of the tile's copies. -/
theorem wait_one {sp sp' : Space} {s s' : Shape} {e e' : EltTy} {κ' : Kind} {sem : DmaSem sig}
    {srcw : Memref sig (tile d L).2.kind sp' s' e'} {dstw : Memref sig κ' sp s e} {hsrc : srcw.view.WordExact} {hdst : dstw.view.WordExact}
    {k : PUnit → Prog (TpuEff nD τ sig (Elt F) Λ₀ (tile d L).2) α} {N : ℕ} (hN : dstw.view.dmaCredit = N) (E : sProp 𝕄) :
    iprop(Transfers.MayWaits (tile d L) (default : HIx 1) O ∗ Transfers.Flight countersEmb (tile d L) (.dma sem) (default : HIx 1) N E ∗ Owing d L O W)
      ⊢ iprop((iprop(E ∗ semVal (tile d L, .dma sem) 0 ∗ Owing d L O W) -∗ wp frame (wpE (defs₀ (F := F)) 𝒱₀ (tile d L) none) Set.univ (k ⟨⟩) Q)
          -∗ wp frame (wpE (defs₀ (F := F)) 𝒱₀ (tile d L) none) Set.univ (.op (.waitDma2 sem srcw dstw hsrc hdst) k) Q) := by
  unfold Owing
  iintro ⟨#Hmw, Hf, %W', %hW, HO⟩ Hk
  iapply (Transfers.wp_waitLocalO (defs := defs₀ (F := F)) countersEmb 𝒱₀ (tile d L) none (default : HIx 1) hN) $$ [Hf HO]
  · isplitl [Hf]; · iexact Hf
    isplitl [HO]; · iexact HO
    iapply (Transfers.MayWaits.elim (SemLoc.dma sem)) $$ Hmw
  iintro ⟨HE, Hs, HO⟩
  iapply Hk
  isplitl [HE]; · iexact HE
  isplitl [Hs]; · iexact Hs
  iexists _
  isplitr
  rotate_left
  · iexact HO
  · ipureintro
    intro p hp
    rcases Finset.mem_insert.mp hp with h | h
    · exact Or.inr (by rw [h]; rfl)
    · exact hW p h

/-- The wait for a half of the output buffer, made from the second trip on. -/
theorem ready {sem : DmaSem sig} {c : Prop} [Decidable c] (a t : Nat) (hc : c ↔ 0 < t)
    {sp' : Space} {s' : Shape} {e' : EltTy} {srcw : Memref sig (tile d L).2.kind sp' s' e'} {dstw : Memref sig .scVector .hbm S30720 .f32} {hsrc : srcw.view.WordExact} {hdst : dstw.view.WordExact}
    (hN : dstw.view.dmaCredit = cOut) {k : Prog (TpuEff nD τ sig (Elt F) Λ₀ (tile d L).2) α} :
    iprop(Transfers.MayWaits (tile d L) (default : HIx 1) O ∗ Going d L fx on sem a t ∗ Owing d L O W)
      ⊢ iprop((iprop(Landed d L fx on a t ∗ Strip (tile d L) outB a (a + 30720) Early ∗ semVal (tile d L, .dma sem) 0 ∗ Owing d L O W) -∗ wp frame (wpE (defs₀ (F := F)) 𝒱₀ (tile d L) none) Set.univ k Q)
          -∗ wp frame (wpE (defs₀ (F := F)) 𝒱₀ (tile d L) none) Set.univ
            (if _ : c then (.op (.waitDma2 sem srcw dstw hsrc hdst) fun _ => k) else k) Q) := by
  by_cases h : t = 0
  · have hn : ¬ c := fun e => absurd (hc.1 e) (by omega)
    simp only [dif_neg hn, Going, Landed, if_pos h]
    iintro ⟨_, ⟨Hs, Hb⟩, HO⟩ Hk
    iapply Hk
    isplitr; · iempintro
    isplitl [Hb]; · iexact Hb
    isplitl [Hs]; · iexact Hs
    iexact HO
  · have hp : c := hc.2 (by omega)
    simp only [dif_pos hp, Going, Landed, if_neg h]
    iintro H Hk
    iapply (wait_one d L O W hN) $$ H
    iintro ⟨⟨Hp, Hb⟩, Hs, HO⟩
    iapply Hk
    isplitl [Hp]; · iexact Hp
    isplitl [Hb]; · iexact Hb
    isplitl [Hs]; · iexact Hs
    iexact HO

/-- The copy of batch `b` into half `h` of the staging buffer. -/
theorem fetch {off off' : Fin 1 → Nat} {inb : ∀ a, off a + S31152.size a ≤ S3987456.size a} {inb' : ∀ a, off' a + S31152.size a ≤ S62304.size a}
    {hr : ∀ a, (Rect.unit (s := S3987456) off S31152.size inb).stride a = 1} {hr' : ∀ a, (Rect.unit (s := S62304) off' S31152.size inb').stride a = 1}
    {hsrc : (xM.slice (Rect.unit (s := S3987456) off S31152.size inb) hr).view.WordExact} {hdst : (inB.slice (Rect.unit (s := S62304) off' S31152.size inb') hr').view.WordExact}
    {hsem : DmaTarget.Typed (nD := nD) (τ := τ) (p := (tile d L).2) .hbm (.dma cc0_scratch5.sem) (.here (inB.slice (Rect.unit (s := S62304) off' S31152.size inb') hr'))}
    {k : PUnit → Prog (TpuEff nD τ sig (Elt F) Λ₀ (tile d L).2) α} (b h : Nat) (ho : off 0 = b * 31152) (ho' : off' 0 = h * 31152) :
    iprop(semVal (tile d L, .dma cc0_scratch5.sem) 0 ∗ Spare d L h ∗ Signal d L fx q)
      ⊢ iprop((Transfers.Flight countersEmb (tile d L) (.dma cc0_scratch5.sem) (default : HIx 1) cIn iprop(Staged d L fx b h ∗ Signal d L fx q) -∗ wp frame (wpE (defs₀ (F := F)) 𝒱₀ (tile d L) none) Set.univ (k ⟨⟩) Q)
          -∗ wp frame (wpE (defs₀ (F := F)) 𝒱₀ (tile d L) none) Set.univ
            (.op (.enqueueDmaAs (xM.slice (Rect.unit (s := S3987456) off S31152.size inb) hr) (.here (inB.slice (Rect.unit (s := S62304) off' S31152.size inb') hr')) ReadAs.same (.dma cc0_scratch5.sem) hsrc hdst hsem) k) Q) := by
  iintro ⟨Hs, Hb, Hx⟩ Hk
  iapply (wp_dma_whole_strip (defs := defs₀ (F := F)) 𝒱₀ (tile d L) none countersEmb (default : HIx 1) cIn rfl cIn_pos (h * 31152) 31152 ho' rfl (P' := XAt fx b h) ?_) $$ [Hs Hb Hx]
  · intro y i hi hy
    show fx y = rd fx _
    rw [rd_idx fx y]
    exact congrArg (rd fx) (by omega)
  · isplitl [Hx]; · iexact Hx
    isplitl [Hb]; · iexact Hb
    iexact Hs
  iexact Hk

/-- The copy of the next batch, where there is one. -/
theorem prefetch (t : Fin k0_t2_loop.trips)
    {hr : ∀ h2 : k0_cond2 t = 1#1, ∀ a, (Rect.unit (s := S3987456) (k0_off6 L t) S31152.size (k0_off6_inb L t h2)).stride a = 1}
    {hr' : ∀ h2 : k0_cond2 t = 1#1, ∀ a, (Rect.unit (s := S62304) (k0_off5 t) S31152.size (k0_off5_inb t h2)).stride a = 1}
    {hsrc : ∀ h2 : k0_cond2 t = 1#1, (xM.slice (Rect.unit (s := S3987456) (k0_off6 L t) S31152.size (k0_off6_inb L t h2)) (hr h2)).view.WordExact}
    {hdst : ∀ h2 : k0_cond2 t = 1#1, (inB.slice (Rect.unit (s := S62304) (k0_off5 t) S31152.size (k0_off5_inb t h2)) (hr' h2)).view.WordExact}
    {hsem : ∀ h2 : k0_cond2 t = 1#1, DmaTarget.Typed (nD := nD) (τ := τ) (p := (tile d L).2) .hbm (.dma cc0_scratch5.sem) (.here (inB.slice (Rect.unit (s := S62304) (k0_off5 t) S31152.size (k0_off5_inb t h2)) (hr' h2)))}
    {k : Prog (TpuEff nD τ sig (Elt F) Λ₀ (tile d L).2) α} :
    iprop(semVal (tile d L, .dma cc0_scratch5.sem) 0 ∗ Spare d L ((t.val + 1) % 2) ∗ Signal d L fx q)
      ⊢ iprop((Coming d L fx q (t.val + 1) -∗ wp frame (wpE (defs₀ (F := F)) 𝒱₀ (tile d L) none) Set.univ k Q)
          -∗ wp frame (wpE (defs₀ (F := F)) 𝒱₀ (tile d L) none) Set.univ
            (if h2 : k0_cond2 t = 1#1 then
              (.op (.enqueueDmaAs (xM.slice (Rect.unit (s := S3987456) (k0_off6 L t) S31152.size (k0_off6_inb L t h2)) (hr h2)) (.here (inB.slice (Rect.unit (s := S62304) (k0_off5 t) S31152.size (k0_off5_inb t h2)) (hr' h2))) ReadAs.same (.dma cc0_scratch5.sem) (hsrc h2) (hdst h2) (hsem h2)) fun _ => k)
              else k) Q) := by
  by_cases h : t.val + 1 < 4
  · have h2 := (cond2_iff t).2 h
    simp only [dif_pos h2, Coming, if_pos h]
    exact fetch d L fx q (k := fun _ => k) (off := k0_off6 L t) (off' := k0_off5 t) (4 * wid L + (t.val + 1)) ((t.val + 1) % 2) (congrFun (off6_eq L t) 0) (congrFun (off5_eq t) 0)
  · have h2 := fun e => h ((cond2_iff t).1 e)
    simp only [dif_neg h2, Coming, if_neg h]
    iintro H Hk
    iapply Hk; iexact H

/-- A half of the output buffer sent off as batch `4 * wid L + t`'s. -/
theorem send (hon : ∀ b < 128, -200 < (wordAt on b).toInt ∧ (wordAt on b).toInt < 200) {sem : DmaSem sig} {off off' : Fin 1 → Nat} {inb : ∀ a, off a + S30720.size a ≤ S61440.size a} {inb' : ∀ a, off' a + S30720.size a ≤ S7864320.size a}
    {hr : ∀ a, (Rect.unit (s := S61440) off S30720.size inb).stride a = 1} {hr' : ∀ a, (Rect.unit (s := S7864320) off' S30720.size inb').stride a = 1}
    {hsrc : (outB.slice (Rect.unit (s := S61440) off S30720.size inb) hr).view.WordExact} {hdst : (oM.slice (Rect.unit (s := S7864320) off' S30720.size inb') hr').view.WordExact}
    {hsem : DmaTarget.Typed (nD := nD) (τ := τ) (p := (tile d L).2) .vmem (.dma sem) (.here (oM.slice (Rect.unit (s := S7864320) off' S30720.size inb') hr'))}
    {k : PUnit → Prog (TpuEff nD τ sig (Elt F) Λ₀ (tile d L).2) α} (a t : Nat) (ht : t < 4) (ha : a + 30720 ≤ 61440) (ho : off 0 = a) (ho' : off' 0 = (4 * wid L + t) * 61440 + a) :
    iprop(semVal (tile d L, .dma sem) 0 ∗ Strip (tile d L) outB a (a + 30720) (LGood fx (wordAt on (4 * wid L + t)) (4 * wid L + t))
        ∗ Strip (tile d L) oM ((4 * wid L + t) * 61440 + a) ((4 * wid L + t) * 61440 + a + 30720) (fun _ _ => True))
      ⊢ iprop((Going d L fx on sem a (t + 1) -∗ wp frame (wpE (defs₀ (F := F)) 𝒱₀ (tile d L) none) Set.univ (k ⟨⟩) Q)
          -∗ wp frame (wpE (defs₀ (F := F)) 𝒱₀ (tile d L) none) Set.univ
            (.op (.enqueueDmaAs (outB.slice (Rect.unit (s := S61440) off S30720.size inb) hr) (.here (oM.slice (Rect.unit (s := S7864320) off' S30720.size inb') hr')) ReadAs.same (.dma sem) hsrc hdst hsem) k) Q) := by
  have hw := wid_lt L
  iintro ⟨Hs, Hb, Ho⟩ Hk
  iapply (wp_dma_strip (defs := defs₀ (F := F)) 𝒱₀ (tile d L) none countersEmb (default : HIx 1) cOut rfl cOut_pos a ((4 * wid L + t) * 61440 + a) 30720 ho ho' rfl (P' := Good fx on) ?_) $$ [Hs Hb Ho]
  · intro i w hi h
    have e1 : ((4 * wid L + t) * 61440 + a + i) / 61440 = 4 * wid L + t := by omega
    have e2 : ((4 * wid L + t) * 61440 + a + i) % 61440 = a + i := by omega
    unfold Good
    rw [e1, e2]; exact h
  · isplitl [Hb]; · iexact Hb
    isplitl [Ho]; · iexact Ho
    iexact Hs
  iintro Hf
  iapply Hk
  unfold Going
  rw [if_neg (Nat.succ_ne_zero t), Nat.add_sub_cancel]
  iapply (Transfers.Flight_mono countersEmb (tile d L) ?_) $$ Hf
  refine sep_mono .rfl (strip_mono (tile d L) fun n w _ _ h hn h1 h2 => ?_)
  rw [h h1 h2]
  exact out_early (hon _ (by omega)).2 hn

/-- The results already sent off and landed before trip `t`. -/
abbrev Done (t : Nat) : sProp 𝕄 := Strip (tile d L) oM (4 * wid L * 61440) ((4 * wid L + (t - 1)) * 61440) (Good fx on)

/-- The results not yet sent off before trip `t`. -/
abbrev Rest (t : Nat) : sProp 𝕄 := Strip (tile d L) oM ((4 * wid L + t) * 61440) ((4 * wid L + 4) * 61440) (fun _ _ => True)

/-- What landed before the trip joins what had landed before. -/
theorem collect (t : Nat) : iprop(Done d L fx on t ∗ Landed d L fx on 0 t ∗ Landed d L fx on 30720 t) ⊢ (Done d L fx on (t + 1) : sProp 𝕄) := by
  by_cases h : t = 0
  · subst h
    iintro ⟨H, _, _⟩; iexact H
  · obtain ⟨u, rfl⟩ := Nat.exists_eq_succ_of_ne_zero h
    simp only [Landed, if_neg h, Done, Piece, Nat.succ_eq_add_one, Nat.add_sub_cancel, Nat.add_zero]
    iintro ⟨H, Ha, Hb⟩
    ihave H := (strip_join (tile d L) (m := oM) (P := Good fx on) (a := 4 * wid L * 61440) (k := (4 * wid L + u) * 61440) (b := (4 * wid L + u) * 61440 + 30720) (by omega) (by omega)) $$ [H Ha]
    · isplitl [H] <;> iassumption
    ihave H := (strip_join (tile d L) (m := oM) (P := Good fx on) (a := 4 * wid L * 61440) (k := (4 * wid L + u) * 61440 + 30720) (b := (4 * wid L + u) * 61440 + 30720 + 30720) (by omega) (by omega)) $$ [H Hb]
    · isplitl [H] <;> iassumption
    have e : (4 * wid L + u) * 61440 + 30720 + 30720 = (4 * wid L + (u + 1)) * 61440 := by omega
    rw [← e]
    iexact H

/-- Before trip `t`. -/
def Before (t : Nat) : sProp 𝕄 :=
  iprop(Transfers.MayWaits (tile d L) (default : HIx 1) O ∗ Coming d L fx q t ∗ Spare d L ((t + 1) % 2) ∗ Going d L fx on cc0_scratch6.sem 0 t
    ∗ Going d L fx on cc0_scratch7.sem 30720 t ∗ Done d L fx on t ∗ Rest d L t ∗ Owing d L O W)

/-- The loop's counter word is positive from the second trip on. -/
theorem later : ∀ t : Fin k0_t2_loop.trips, Scalar.cmpi .ne (Scalar.extui (Scalar.cmpi .sgt (Scf.iv 0#32 1#32 t) 0#32) : BitVec 32) 0#32 = 1#1 ↔ 0 < t.val := by decide +kernel

/-- Half way through trip `t`: the first half of the output buffer filled, nothing sent off. -/
def Midway (t : Nat) : sProp 𝕄 :=
  iprop(Transfers.MayWaits (tile d L) (default : HIx 1) O ∗ Coming d L fx q (t + 1) ∗ Staged d L fx (4 * wid L + t) (t % 2)
    ∗ (semVal (tile d L, .dma cc0_scratch6.sem) 0 ∗ Strip (tile d L) outB 0 (0 + 30720) (LGood fx (wordAt on (4 * wid L + t)) (4 * wid L + t)) ∗ Landed d L fx on 0 t)
    ∗ Going d L fx on cc0_scratch7.sem 30720 t ∗ Done d L fx on t ∗ Rest d L t ∗ Owing d L O W)

section

variable (hon : ∀ b < 128, -200 < (wordAt on b).toInt ∧ (wordAt on b).toInt < 200) (v31 : BitVec 32) (v45 : IVec S16 32) (v241 : FVec F S16 .f32) (hz : ∀ x, v241 x = zero)
    (t : Fin k0_t2_loop.trips) (h45 : v45 (lane ⟨wid L % 4 * 4 + t.val, lane_of L t⟩) = wordAt on (4 * wid L + t.val))

include hon hz h45 in
/-- The trip's first part. -/
theorem trip_head :
    Before d L fx on q O W t.val
      ⊢ wp frame (wpE (defs₀ (F := F)) 𝒱₀ (tile d L) none) Set.univ
          (k0_part3 L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 (laneWord L) v31 v45 (iota .scVector S16 32 [0] iota_S16_d0_w32_scVector) k0_pay3 v241 0#32 1#32 t)
          fun r => iprop(⌜r.1 = Scf.iv 0#32 1#32 t ∧ r.2.1 = wordAt on (4 * wid L + t.val)⌝ ∗ Midway d L fx on q O W t.val) := by
  have ht := t2_lt t
  have hw := wid_lt L
  rw [k0_part3_eq_skeleton]
  unfold k0_part3_skel
  simp only [Prog.lift, Prog.bind_op, Prog.bind_ret, pure_bind, bind_assoc]
  generalize (Scalar.select (Scalar.andi (Scalar.xori _ _) _) _ _ : BitVec 32) = v276
  have hv := (onset_word L t v45).trans h45
  have hb := hon (4 * wid L + t.val) (by omega)
  rw [← hv] at hb
  unfold Before Midway
  rw [show Coming d L fx q t.val = Transfers.Flight countersEmb (tile d L) (.dma cc0_scratch5.sem) (default : HIx 1) cIn iprop(Staged d L fx (4 * wid L + t.val) (t.val % 2) ∗ Signal d L fx q) from if_pos ht]
  iintro ⟨#Hmw, Hin, Hsp, HA, HB, HD, HR, HO⟩
  iapply (wait_one d L O W (N := cIn) rfl) $$ [Hin HO]
  · isplitr; · iexact Hmw
    isplitl [Hin] <;> iassumption
  iintro ⟨⟨Hx, Hsig⟩, Hs, HO⟩
  iapply (prefetch d L fx q t) $$ [Hs Hsp Hsig]
  · isplitl [Hs]; · iexact Hs
    isplitl [Hsp] <;> iassumption
  iintro Hin
  rw [wp_assume_of _ _ _ _ (chk hb.1 hb.2 t)]
  iapply (ready d L fx on O W 0 t.val (later t) rfl) $$ [HA HO]
  · isplitr; · iexact Hmw
    isplitl [HA] <;> iassumption
  iintro ⟨Hl, Hb, Hs, HO⟩
  sl_for (fun k (_ : Unit) => iprop(Staged d L fx (4 * wid L + t.val) (t.val % 2) ∗ Filled d L fx _ (4 * wid L + t.val) 0 30720 (3072 * (7 + k)))) $$ [Hx Hb]
  case region =>
    intro k _
    exact t3_trip d L fx _ _ hb.1 hb.2 _ _ _ _ _ _ _ _ hz t _ _ k
  · isplitl [Hx]; · iexact Hx
    iapply (strip_mono (tile d L) ?_) $$ Hb
    intro n w _ _ h hq h1 h2
    rw [out_early hb.2 (by omega)]
    exact h (by omega) h1 h2
  iintro %_ ⟨Hx, Hb⟩
  sl_step
  isplitr; · ipureintro; exact ⟨rfl, hv⟩
  isplitr; · iexact Hmw
  isplitl [Hin]; · iexact Hin
  isplitl [Hx]; · iexact Hx
  isplitl [Hs Hb Hl]
  · isplitl [Hs]; · iexact Hs
    isplitl [Hb]
    · iapply (strip_mono (tile d L) ?_) $$ Hb
      intro n w _ hn h
      rw [← hv]
      exact h (by show n < 3072 * (7 + k0_t3_loop.trips); rw [t3_trips]; omega)
    · iexact Hl
  isplitl [HB]; · iexact HB
  isplitl [HD]; · iexact HD
  isplitl [HR] <;> iassumption

/-- The pieces trip `t` fills, off the results not yet sent. -/
theorem rest_split (t : Nat) (ht : t < 4) : Rest d L t ⊢ (iprop(Strip (tile d L) oM ((4 * wid L + t) * 61440 + 0) ((4 * wid L + t) * 61440 + 0 + 30720) (fun _ _ => True)
    ∗ Strip (tile d L) oM ((4 * wid L + t) * 61440 + 30720) ((4 * wid L + t) * 61440 + 30720 + 30720) (fun _ _ => True) ∗ Rest d L (t + 1)) : sProp 𝕄) := by
  have e : (4 * wid L + t) * 61440 + 30720 + 30720 = (4 * wid L + (t + 1)) * 61440 := by omega
  rw [e, Nat.add_zero]
  refine (strip_split (tile d L) (k := (4 * wid L + t) * 61440 + 30720) (by omega) (by omega)).trans (sep_mono .rfl ?_)
  exact strip_split (tile d L) (by omega) (by omega)

include hon hz h45 in
/-- A trip of the batch loop. -/
theorem trip :
    Before d L fx on q O W t.val
      ⊢ wp frame (wpE (defs₀ (F := F)) 𝒱₀ (tile d L) none) Set.univ
          (k0_t2_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 (laneWord L) v31 v45 (iota .scVector S16 32 [0] iota_S16_d0_w32_scVector) k0_pay3 v241 t ())
          fun _ => Before d L fx on q O W (t.val + 1) := by
  have ht := t2_lt t
  have hw := wid_lt L
  unfold k0_t2_body
  rw [wp_bind]
  refine (trip_head d L fx on q O W hon v31 v45 v241 hz t h45).trans (wp_mono _ _ _ ?_)
  rintro ⟨a, v, hk, w⟩
  dsimp only
  simp only [Prog.lift, Prog.bind_op, Prog.bind_ret, pure_bind, bind_assoc]
  iintro ⟨%hr, H⟩
  obtain ⟨rfl, rfl⟩ := hr
  have hb := hon (4 * wid L + t.val) (by omega)
  unfold Midway
  icases H with ⟨#Hmw, Hin, Hx, ⟨Hs, Hb, Hl⟩, HB, HD, HR, HO⟩
  ihave ⟨Ho, Ho', HR⟩ := (rest_split d L t.val ht) $$ HR
  iapply (send d L fx on hon 0 t.val ht (by omega) rfl ((congrFun (off10_eq L t) 0).trans (Nat.add_zero _).symm)) $$ [Hs Hb Ho]
  · isplitl [Hs]; · iexact Hs
    isplitl [Hb] <;> iassumption
  iintro HA
  iapply (ready d L fx on O W 30720 t.val (later t) rfl) $$ [HB HO]
  · isplitr; · iexact Hmw
    isplitl [HB] <;> iassumption
  iintro ⟨Hl', Hb, Hs, HO⟩
  sl_for (fun k (_ : Unit) => iprop(Staged d L fx (4 * wid L + t.val) (t.val % 2) ∗ Filled d L fx (wordAt on (4 * wid L + t.val)) (4 * wid L + t.val) 30720 61440 (3072 * (10 + k)))) $$ [Hx Hb]
  case region =>
    intro k _
    exact t6_trip d L fx _ _ hb.1 hb.2 t hk _ k
  · isplitl [Hx]; · iexact Hx
    iapply (strip_mono (tile d L) ?_) $$ Hb
    intro n w hn _ h hq
    omega
  iintro %_ ⟨Hx, Hb⟩
  iapply (send d L fx on hon 30720 t.val ht (by omega) rfl (congrFun (off13_eq L t) 0)) $$ [Hs Hb Ho']
  · isplitl [Hs]; · iexact Hs
    isplitl [Hb]
    · iapply (strip_mono (tile d L) ?_) $$ Hb
      intro n w _ hn h
      exact h (by show n < 3072 * (10 + k0_t6_loop.trips); rw [t6_trips]; omega)
    · iexact Ho'
  iintro HB
  sl_step
  unfold Before
  isplitr; · iexact Hmw
  isplitl [Hin]; · iexact Hin
  isplitl [Hx]
  · have e : (t.val + 1 + 1) % 2 = t.val % 2 := by omega
    iapply (show Staged d L fx (4 * wid L + t.val) (t.val % 2) ⊢ (Spare d L ((t.val + 1 + 1) % 2) : sProp 𝕄) by
      rw [e]; exact strip_mono (tile d L) fun _ _ _ _ _ => trivial) $$ Hx
  isplitl [HA]; · iexact HA
  isplitl [HB]; · iexact HB
  isplitl [HD Hl Hl']
  · iapply (collect d L fx on t.val)
    isplitl [HD]; · iexact HD
    isplitl [Hl] <;> iassumption
  isplitl [HR] <;> iassumption

end

end

end Cert.Proof.Trip

end
-- ==== Proof.Tile.lean ====
/-
  A tile's task: the onsets of its chunk read, the chunk's counts written by one tile of the chunk, the output buffer
  zeroed, and the four batches.
-/
module

public import proofs.«01_k».proof.Proof.Trip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Setup Cert.Proof.Pay Cert.Proof.Words Cert.Proof.Strip Cert.Proof.Rows Cert.Proof.Trip

variable {F : FTy → Type} [FloatOps F]

local notation "𝕄" => MT nD τ sig (HIx 1) (Elt F) ℕ UU ℕ

section

variable (d : Dev nD) (L : grid0.Coords) (fx : FVec F S3987456 .f32) (fon fws : FVec F S128 .f32) (q : PosShare TreeShare)
variable (O : CellTallies nD τ sig (HIx 1)) (W : Waits sig (HIx 1))

/-- The word of the tile's first lane, as the tile computes it. -/
theorem first_lane : ∀ L : grid0.Coords,
    (let w := Scalar.addi (Scalar.muli (BitVec.ofNat 32 (L 1).val) 2#32) (BitVec.ofNat 32 (L 0).val)
     let m := Scalar.select (Scalar.cmpi .eq 4#32 0#32) 1#32 4#32
     let r := Scalar.remsi w m
     Scalar.muli (Scalar.select (Scalar.andi (Scalar.xori (Scalar.cmpi .slt r 0#32) (Scalar.cmpi .slt m 0#32)) (Scalar.cmpi .ne r 0#32)) (Scalar.addi r m) r) 4#32) = laneWord L := by
  decide +kernel

/-- The tile's words: its number, its chunk, its first lane and its first batch. -/
theorem words_part : ∃ v1 v18 v31, k0_part4 (F := F) L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 = pure ⟨v1, v18, laneWord L, v31⟩ := by
  have h := first_lane L
  rw [k0_part4_eq_skeleton]
  unfold k0_part4_skel
  dsimp only at h ⊢
  rw [h]
  exact ⟨_, _, _, rfl⟩

/-- The onsets (or starts) of the batches, read at share `q`. -/
abbrev Onsets : sProp 𝕄 := onM.view.loc (tile d L) ↦{q} fon
abbrev Starts : sProp 𝕄 := wsM.view.loc (tile d L) ↦{q} fws

/-- What part of `f` a buffer of sixteen holds. -/
def Chunk (f : FVec F S128 .f32) (n : Nat) (w : F .f32) : Prop := ∃ y : S128.Idx, (y 0).val = wid L / 4 * 16 + n ∧ w = f y

/-- The first batch's copy started and the chunk's onsets read. -/
theorem fetch_part (v18 : BitVec 32) :
    iprop(Transfers.MayWaits (tile d L) (default : HIx 1) O ∗ (semVal (tile d L, .dma cc0_scratch5.sem) 0 ∗ Spare d L 0 ∗ Signal d L fx q)
        ∗ (Onsets d L fon q ∗ Strip (tile d L) onB 0 16 (fun _ _ => True) ∗ semVal (tile d L, .dma cc0_scoped0.sem) 0)
        ∗ (Starts d L fws q ∗ Strip (tile d L) wsB 0 16 (fun _ _ => True) ∗ semVal (tile d L, .dma cc0_scoped1.sem) 0) ∗ Owing d L O W)
      ⊢ wp frame (wpE (defs₀ (F := F)) 𝒱₀ (tile d L) none) Set.univ (k0_part5 L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v18)
          fun r => iprop(⌜∃ v41 v42 : Vec F S16 .f32, (∀ j, k0_pay2 v41 v42 j = wordAt (onsets fon fws) (wid L / 4 * 16 + (j 0).val))
              ∧ r = ⟨k0_pay2 v41 v42, iota .scVector S16 32 [0] iota_S16_d0_w32_scVector, k0_pay3, k0_pay4 v41 v42, k0_pay6 v41 v42, k0_pay7 v41 v42⟩⌝
            ∗ Coming d L fx q 0
            ∗ (Onsets d L fon q ∗ Strip (tile d L) onB 0 16 (fun _ _ => True) ∗ semVal (tile d L, .dma cc0_scoped0.sem) 0)
            ∗ (Starts d L fws q ∗ Strip (tile d L) wsB 0 16 (fun _ _ => True) ∗ semVal (tile d L, .dma cc0_scoped1.sem) 0) ∗ Owing d L O W) := by
  have hw := wid_lt L
  rw [k0_part5_eq_skeleton]
  unfold k0_part5_skel
  simp only [Prog.lift, Prog.bind_op, Prog.bind_ret, pure_bind, bind_assoc]
  have ho : k0_off2 L 0 = wid L / 4 * 16 := congrFun (off2_eq L) 0
  iintro ⟨#Hmw, Hin, ⟨Hon, Hob, Hs0⟩, ⟨Hws, Hwb, Hs1⟩, HO⟩
  iapply (fetch d L fx q (4 * wid L) 0 (congrFun (off1_eq L) 0) rfl) $$ Hin
  iintro Hin
  iapply (wp_dma_whole_all (defs := defs₀ (F := F)) (n := 16) 𝒱₀ (tile d L) none countersEmb (default : HIx 1) onB.view.dmaCredit rfl (View.dmaCredit_pos _ (by decide)) (P' := Chunk L fon) ?_) $$ [Hon Hob Hs0]
  · intro y i hi hy
    exact ⟨y, by omega, rfl⟩
  · isplitl [Hon]; · iexact Hon
    isplitl [Hob] <;> iassumption
  iintro Hf
  iapply (wait_one d L O W rfl) $$ [Hf HO]
  · isplitr; · iexact Hmw
    isplitl [Hf] <;> iassumption
  iintro ⟨⟨Hob, Hon⟩, Hs0, HO⟩
  iapply (wp_dma_whole_all (defs := defs₀ (F := F)) (n := 16) 𝒱₀ (tile d L) none countersEmb (default : HIx 1) wsB.view.dmaCredit rfl (View.dmaCredit_pos _ (by decide)) (P' := Chunk L fws) ?_) $$ [Hws Hwb Hs1]
  · intro y i hi hy
    exact ⟨y, by omega, rfl⟩
  · isplitl [Hws]; · iexact Hws
    isplitl [Hwb] <;> iassumption
  iintro Hf
  iapply (wait_one d L O W rfl) $$ [Hf HO]
  · isplitr; · iexact Hmw
    isplitl [Hf] <;> iassumption
  iintro ⟨⟨Hwb, Hws⟩, Hs1, HO⟩
  iapply (wp_load_strip (defs := defs₀ (F := F)) 𝒱₀ (tile d L) none 0 16 rfl rfl (by omega) (by omega)) $$ Hob
  iintro %v41 %h41 Hob
  iapply (wp_load_strip (defs := defs₀ (F := F)) 𝒱₀ (tile d L) none 0 16 rfl rfl (by omega) (by omega)) $$ Hwb
  iintro %v42 %h42 Hwb
  sl_step
  isplitr
  · ipureintro
    refine ⟨v41, v42, fun j => ?_, rfl⟩
    obtain ⟨y, hy, e⟩ := h41 j
    obtain ⟨y', hy', e'⟩ := h42 j
    have hyy : y' = y := by
      funext a; rw [Fin.fin_one_eq_zero a]; exact Fin.ext (hy'.trans hy.symm)
    subst hyy
    rw [pay2_apply fon fws v41 v42 j y' e e', wordAt_idx (onsets fon fws) y', hy', Nat.zero_add]
  isplitl [Hin]
  · iapply (show (Transfers.Flight countersEmb (tile d L) (.dma cc0_scratch5.sem) (default : HIx 1) cIn iprop(Staged d L fx (4 * wid L) 0 ∗ Signal d L fx q) : sProp 𝕄)
      ⊢ Coming d L fx q 0 from Entails.of_eq (if_pos (by omega)).symm) $$ Hin
  isplitl [Hon Hob Hs0]
  · isplitl [Hon]; · iexact Hon
    isplitl [Hob]
    · iapply (strip_mono (tile d L) fun _ _ _ _ _ => trivial) $$ Hob
    · iexact Hs0
  isplitl [Hws Hwb Hs1]
  · isplitl [Hws]; · iexact Hws
    isplitl [Hwb]
    · iapply (strip_mono (tile d L) fun _ _ _ _ _ => trivial) $$ Hwb
    · iexact Hs1
  iexact HO

/-- The chunk's counts, which the chunk's first tile writes. -/
def Counts (P : Nat → BitVec 32 → Prop) : sProp 𝕄 :=
  if wid L % 4 = 0 then Strip (tile d L) nM (wid L / 4 * 16) (wid L / 4 * 16 + 16) P else iprop(emp)

/-- One batch's count. -/
def Counted (on : IVec S128 32) (n : Nat) (w : BitVec 32) : Prop := w = countTo (wordAt on n) 20

/-- The first `q` elements are zeros. -/
def ZeroTo (q n : Nat) (w : F .f32) : Prop := n < q → w = zero

/-- Sixteen elements of the output buffer zeroed. -/
theorem zero_trip (v1 v18 : BitVec 32) (v45 v47 v200 : IVec S16 32) (v204 v205 : IVec S16 1) (k : Fin k0_t1_loop.trips) :
    (Strip (tile d L) outB 0 61440 (ZeroTo (16 * k.val)) : sProp 𝕄)
      ⊢ wp frame (wpE (defs₀ (F := F)) 𝒱₀ (tile d L) none) Set.univ (k0_t1_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v1 v18 v45 v47 v200 v204 v205 k ())
          fun _ => Strip (tile d L) outB 0 61440 (ZeroTo (16 * (k.val + 1))) := by
  have hk : k.val < 1344 := lt_of_lt_of_eq k.isLt t1_trips
  have ho : k0_off4 k 0 = 16 * k.val := congrFun (k0_off4_eq k) 0
  unfold k0_t1_body
  simp only [Prog.lift, Prog.bind_op, Prog.bind_ret, pure_bind, bind_assoc]
  iintro H
  iapply (wp_load_strip (defs := defs₀ (F := F)) 𝒱₀ (tile d L) none _ 16 ho rfl (by omega) (by omega)) $$ H
  iintro %w - H
  iapply (wp_store_strip (defs := defs₀ (F := F)) 𝒱₀ (tile d L) none (P' := ZeroTo (16 * (k.val + 1))) _ 16 ho rfl (by omega) (by omega) ?_ ?_) $$ H
  · intro i u _ _ hi hu hj
    exact hu (by omega)
  · intro x _
    rfl
  iintro H
  sl_step
  iexact H

/-- The counts written and the output buffer zeroed. -/
theorem count_part (on : IVec S128 32) (v1 v18 : BitVec 32) (v45 v47 v200 : IVec S16 32) (v204 v205 : IVec S16 1)
    (hc : ∀ j, k0_pay20 v45 v47 v200 v204 v205 j = countTo (wordAt on (wid L / 4 * 16 + (j 0).val)) 20) :
    iprop(Transfers.MayWaits (tile d L) (default : HIx 1) O ∗ (Counts d L (fun _ _ => True) ∗ Strip (tile d L) nB 0 16 (fun _ _ => True) ∗ semVal (tile d L, .dma cc0_scoped2.sem) 0)
        ∗ Strip (tile d L) outB 0 61440 (fun _ _ => True) ∗ Owing d L O W)
      ⊢ wp frame (wpE (defs₀ (F := F)) 𝒱₀ (tile d L) none) Set.univ (k0_part9 L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v1 v18 v45 v47 v200 v204 v205)
          fun r => iprop(⌜∀ x, r x = zero⌝ ∗ (Counts d L (Counted on) ∗ Strip (tile d L) nB 0 16 (fun _ _ => True) ∗ semVal (tile d L, .dma cc0_scoped2.sem) 0)
            ∗ Strip (tile d L) outB 0 61440 Early ∗ Owing d L O W) := by
  have hw := wid_lt L
  have ho : k0_off3 L 0 = wid L / 4 * 16 := congrFun (off3_eq L) 0
  have hloop : iprop((Counts d L (Counted on) ∗ Strip (tile d L) nB 0 16 (fun _ _ => True) ∗ semVal (tile d L, .dma cc0_scoped2.sem) 0)
        ∗ Strip (tile d L) outB 0 61440 (fun _ _ => True) ∗ Owing d L O W)
      ⊢ wp frame (wpE (defs₀ (F := F)) 𝒱₀ (tile d L) none) Set.univ
          (Scf.Loop.for k0_t1_loop k0_t1_ok ⟨⟩ (k0_t1_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 v1 v18 v45 v47 v200 v204 v205) >>= fun _ => pure (k0_pay21 (F := F)))
          fun r => iprop(⌜∀ x, r x = zero⌝ ∗ (Counts d L (Counted on) ∗ Strip (tile d L) nB 0 16 (fun _ _ => True) ∗ semVal (tile d L, .dma cc0_scoped2.sem) 0)
            ∗ Strip (tile d L) outB 0 61440 Early ∗ Owing d L O W) := by
    iintro ⟨Hc, Hb, HO⟩
    sl_for (fun k (_ : Unit) => Strip (tile d L) outB 0 61440 (ZeroTo (16 * k))) $$ [Hb]
    case region =>
      intro k _
      exact zero_trip d L _ _ _ _ _ _ _ k
    · iapply (strip_mono (tile d L) ?_) $$ Hb
      intro n w _ _ _ h
      omega
    iintro %_ Hb
    sl_step
    isplitr; · ipureintro; exact fun _ => rfl
    isplitl [Hc]; · iexact Hc
    isplitl [Hb]
    · iapply (strip_mono (tile d L) ?_) $$ Hb
      intro n w _ _ h h1 _ _
      exact h (by show n < 16 * k0_t1_loop.trips; rw [t1_trips]; omega)
    · iexact HO
  rw [k0_part9_eq_skeleton]
  unfold k0_part9_skel
  simp only [Prog.lift, Prog.bind_op, Prog.bind_ret, pure_bind, bind_assoc]
  by_cases h : wid L % 4 = 0
  · have h1 := (cond1_iff L).2 h
    simp only [dif_pos h1]
    have eC : ∀ P, (Counts d L P : sProp 𝕄) = Strip (tile d L) nM (wid L / 4 * 16) (wid L / 4 * 16 + 16) P := fun P => if_pos h
    rw [eC]
    iintro ⟨#Hmw, ⟨Hn, Hnb, Hs⟩, Hb, HO⟩
    iapply (wp_load_strip (defs := defs₀ (F := F)) 𝒱₀ (tile d L) none 0 16 rfl rfl (by omega) (by omega)) $$ Hnb
    iintro %w - Hnb
    iapply (wp_store_strip (defs := defs₀ (F := F)) 𝒱₀ (tile d L) none (P' := fun n w => Counted on (wid L / 4 * 16 + n) w) 0 16 rfl rfl (by omega) (by omega) ?_ ?_) $$ Hnb
    · intro i u _ _ hi
      omega
    · intro x
      rw [Nat.zero_add]
      exact hc x
    iintro Hnb
    iapply (wp_dma_all_strip (defs := defs₀ (F := F)) (n := 16) 𝒱₀ (tile d L) none countersEmb (default : HIx 1) (nM.view.ref.dmaCredit S16 .i32) rfl (sig.dmaCredit_pos _ _ _ _ _ (by decide)) _ ho (P' := Counted on) ?_) $$ [Hn Hnb Hs]
    · intro i v _ hv
      exact hv
    · isplitl [Hnb]; · iexact Hnb
      isplitl [Hn] <;> iassumption
    iintro Hf
    iapply (wait_one d L O W rfl) $$ [Hf HO]
    · isplitr; · iexact Hmw
      isplitl [Hf] <;> iassumption
    iintro ⟨⟨Hn, Hnb⟩, Hs, HO⟩
    iapply hloop
    isplitl [Hn Hnb Hs]
    · isplitl [Hn]
      · iapply (Entails.of_eq (eC (Counted on)).symm) $$ Hn
      isplitl [Hnb]
      · iapply (strip_mono (tile d L) fun _ _ _ _ _ => trivial) $$ Hnb
      · iexact Hs
    isplitl [Hb] <;> iassumption
  · have h1 := fun e => h ((cond1_iff L).1 e)
    simp only [dif_neg h1]
    have eC : ∀ P, (Counts d L P : sProp 𝕄) = iprop(emp) := fun P => if_neg h
    rw [eC, ← eC (Counted on)]
    iintro ⟨_, H⟩
    iapply hloop; iexact H

end

end Cert.Proof.Tile

end
-- ==== Proof.Task.lean ====
/-
  A tile's task as the launch asks for it: from the tile's shares of the inputs and its pieces of the results to the
  same with the results right, over everything the tile owns.
-/
module

public import proofs.«01_k».proof.Proof.Tile

@[expose] public section

noncomputable section

namespace Cert.Proof.Task

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.Proof.Setup Cert.Proof.Pay Cert.Proof.Words Cert.Proof.Strip Cert.Proof.Rows Cert.Proof.Trip Cert.Proof.Tile

variable {F : FTy → Type} [FloatOps F]

local notation "𝕄" => MT nD τ sig (HIx 1) (Elt F) ℕ UU ℕ

section

variable (d : Dev nD) (L : grid0.Coords)

/-- One of the tile's copy semaphores. -/
abbrev cell (sem : DmaSem sig) : GSem nD τ sig := (tile d L, .dma sem)

omit [FloatOps F] in
/-- A semaphore taken off what is left of the tile's own. -/
theorem sem_off (S : Finset (GSem nD τ sig)) (sem : DmaSem sig) (h : cell d L sem ∈ S) :
    (bigSep S fun g => semVal g 0 : sProp 𝕄) = iprop(semVal (cell d L sem) 0 ∗ bigSep (S.erase (cell d L sem)) fun g => semVal g 0) :=
  SparseCore.bigSep_erase' h

omit [FloatOps F] in
theorem sem_own (sem : DmaSem sig) (h : (SemLoc.dma sem : SemLoc sig).isScoped .scVector = true) : cell d L sem ∈ ownCells (tile d L) :=
  (mem_ownCells (g := cell d L sem)).mpr ⟨rfl, h⟩

omit [FloatOps F] in
theorem cell_ne {s s' : DmaSem sig} (h : s ≠ s') : cell d L s ≠ cell d L s' := fun e => h (by
  have := (Prod.mk.inj e).2; injection this)

omit [FloatOps F] in
/-- A buffer taken off what is left of the tile's own. -/
theorem buf_off (S : Finset (DevRef τ sig)) (b : Ref sig .scVector) (h : (tile d L).2.devRef b ∈ S) :
    (bigSep S fun b => iprop(∃ f, ((d, b) : Loc nD τ sig) ↦{fullShare} f) : sProp 𝕄)
      = iprop((∃ f, (tile d L).loc b ↦{fullShare} f) ∗ bigSep (S.erase ((tile d L).2.devRef b)) fun b => iprop(∃ f, ((d, b) : Loc nD τ sig) ↦{fullShare} f)) :=
  SparseCore.bigSep_erase' h

omit [FloatOps F] in
theorem ref_ne {b b' : Ref sig .scVector} (h : b ≠ b') : (tile d L).2.devRef b ≠ (tile d L).2.devRef b' :=
  fun e => h (Proc.devRef_injective _ e)

/-- The semaphores the task does not use. -/
abbrev semsLeft : Finset (GSem nD τ sig) := ((((((ownCells (tile d L)).erase (cell d L cc0_scratch5.sem)).erase (cell d L cc0_scratch6.sem)).erase (cell d L cc0_scratch7.sem)).erase (cell d L cc0_scoped0.sem)).erase (cell d L cc0_scoped1.sem)).erase (cell d L cc0_scoped2.sem)

/-- The buffers the task does not use. -/
abbrev bufsLeft : Finset (DevRef τ sig) := (((((ownRefs (τ := τ) (.scVector (cV L) (jV L))).erase ((tile d L).2.devRef cc0_scratch0)).erase ((tile d L).2.devRef cc0_scratch1)).erase ((tile d L).2.devRef cc0_scratch2)).erase ((tile d L).2.devRef cc0_scratch3)).erase ((tile d L).2.devRef cc0_scratch4)

omit [FloatOps F] in
theorem ownSems0_V :
    (ownSems0 (tile d L) : sProp 𝕄)
      = iprop(semVal (cell d L cc0_scratch5.sem) 0 ∗ semVal (cell d L cc0_scratch6.sem) 0 ∗ semVal (cell d L cc0_scratch7.sem) 0 ∗ semVal (cell d L cc0_scoped0.sem) 0 ∗ semVal (cell d L cc0_scoped1.sem) 0 ∗ semVal (cell d L cc0_scoped2.sem) 0 ∗ bigSep (semsLeft d L) fun g => semVal g 0) := by
  unfold SparseCore.Cfg.ownSems0
  rw [sem_off d L _ cc0_scratch5.sem (sem_own d L cc0_scratch5.sem (by decide)),
    sem_off d L _ cc0_scratch6.sem (Finset.mem_erase.mpr ⟨cell_ne d L (by decide), (sem_own d L cc0_scratch6.sem (by decide))⟩),
    sem_off d L _ cc0_scratch7.sem (Finset.mem_erase.mpr ⟨cell_ne d L (by decide), (Finset.mem_erase.mpr ⟨cell_ne d L (by decide), (sem_own d L cc0_scratch7.sem (by decide))⟩)⟩),
    sem_off d L _ cc0_scoped0.sem (Finset.mem_erase.mpr ⟨cell_ne d L (by decide), (Finset.mem_erase.mpr ⟨cell_ne d L (by decide), (Finset.mem_erase.mpr ⟨cell_ne d L (by decide), (sem_own d L cc0_scoped0.sem (by decide))⟩)⟩)⟩),
    sem_off d L _ cc0_scoped1.sem (Finset.mem_erase.mpr ⟨cell_ne d L (by decide), (Finset.mem_erase.mpr ⟨cell_ne d L (by decide), (Finset.mem_erase.mpr ⟨cell_ne d L (by decide), (Finset.mem_erase.mpr ⟨cell_ne d L (by decide), (sem_own d L cc0_scoped1.sem (by decide))⟩)⟩)⟩)⟩),
    sem_off d L _ cc0_scoped2.sem (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (sem_own d L cc0_scoped2.sem (by decide))⟩)⟩)⟩)⟩)⟩)]

omit [FloatOps F] in
theorem ownBufs_V :
    (ownBufs (tile d L) : sProp 𝕄)
      = iprop((∃ f, (tile d L).loc cc0_scratch0 ↦{fullShare} f) ∗ (∃ f, (tile d L).loc cc0_scratch1 ↦{fullShare} f) ∗ (∃ f, (tile d L).loc cc0_scratch2 ↦{fullShare} f) ∗ (∃ f, (tile d L).loc cc0_scratch3 ↦{fullShare} f) ∗ (∃ f, (tile d L).loc cc0_scratch4 ↦{fullShare} f) ∗ bigSep (bufsLeft d L) fun b => iprop(∃ f, ((d, b) : Loc nD τ sig) ↦{fullShare} f)) := by
  unfold SparseCore.Cfg.ownBufs
  refine (buf_off d L _ cc0_scratch0 (SparseCore.Cfg.mem_ownRefs_of_owner (p := Proc.scVector (cV L) (jV L)) (b := (tile d L).2.devRef cc0_scratch0) rfl)).trans ?_
  rw [buf_off d L _ cc0_scratch1 (Finset.mem_erase.mpr ⟨ref_ne d L (by decide), (SparseCore.Cfg.mem_ownRefs_of_owner (p := Proc.scVector (cV L) (jV L)) (b := (tile d L).2.devRef cc0_scratch1) rfl)⟩),
    buf_off d L _ cc0_scratch2 (Finset.mem_erase.mpr ⟨ref_ne d L (by decide), (Finset.mem_erase.mpr ⟨ref_ne d L (by decide), (SparseCore.Cfg.mem_ownRefs_of_owner (p := Proc.scVector (cV L) (jV L)) (b := (tile d L).2.devRef cc0_scratch2) rfl)⟩)⟩),
    buf_off d L _ cc0_scratch3 (Finset.mem_erase.mpr ⟨ref_ne d L (by decide), (Finset.mem_erase.mpr ⟨ref_ne d L (by decide), (Finset.mem_erase.mpr ⟨ref_ne d L (by decide), (SparseCore.Cfg.mem_ownRefs_of_owner (p := Proc.scVector (cV L) (jV L)) (b := (tile d L).2.devRef cc0_scratch3) rfl)⟩)⟩)⟩),
    buf_off d L _ cc0_scratch4 (Finset.mem_erase.mpr ⟨ref_ne d L (by decide), (Finset.mem_erase.mpr ⟨ref_ne d L (by decide), (Finset.mem_erase.mpr ⟨ref_ne d L (by decide), (Finset.mem_erase.mpr ⟨ref_ne d L (by decide), (SparseCore.Cfg.mem_ownRefs_of_owner (p := Proc.scVector (cV L) (jV L)) (b := (tile d L).2.devRef cc0_scratch4) rfl)⟩)⟩)⟩)⟩)]

omit [FloatOps F] in
/-- A whole buffer as a piece of itself, and back. -/
theorem strip_of_whole {N : Nat} {e : EltTy} {sp : Space} (m : Memref sig .scVector sp (Line N) e) (hm : m.view.set = Finset.univ) :
    (iprop(∃ f, m.view.loc (tile d L) ↦{fullShare} f) : sProp 𝕄) ⊢ Strip (tile d L) m 0 N (fun _ _ => True) := by
  unfold Strip
  rw [seg_all, View.setOn_univ, hm]
  iintro ⟨%f, H⟩
  iexists f
  isplitr; · ipureintro; exact fun _ _ _ => trivial
  iexact H

omit [FloatOps F] in
theorem whole_of_strip {N : Nat} {e : EltTy} {sp : Space} (m : Memref sig .scVector sp (Line N) e) (hm : m.view.set = Finset.univ) (P : Nat → Elt F e → Prop) :
    (Strip (tile d L) m 0 N P : sProp 𝕄) ⊢ iprop(∃ f, m.view.loc (tile d L) ↦{fullShare} f) := by
  unfold Strip
  rw [seg_all, View.setOn_univ, hm]
  iintro ⟨%f, _, H⟩
  iexists f
  iexact H

variable (fx : FVec F S3987456 .f32) (fon fws : FVec F S128 .f32) (q : PosShare TreeShare) (O : CellTallies nD τ sig (HIx 1)) (W : Waits sig (HIx 1))

/-- The five scratch buffers and the six copy semaphores, idle. -/
def Idle : sProp 𝕄 :=
  iprop((Strip (tile d L) inB 0 62304 (fun _ _ => True) ∗ Strip (tile d L) outB 0 61440 (fun _ _ => True) ∗ Strip (tile d L) onB 0 16 (fun _ _ => True)
      ∗ Strip (tile d L) wsB 0 16 (fun _ _ => True) ∗ Strip (tile d L) nB 0 16 (fun _ _ => True))
    ∗ semVal (cell d L cc0_scratch5.sem) 0 ∗ semVal (cell d L cc0_scratch6.sem) 0 ∗ semVal (cell d L cc0_scratch7.sem) 0
    ∗ semVal (cell d L cc0_scoped0.sem) 0 ∗ semVal (cell d L cc0_scoped1.sem) 0 ∗ semVal (cell d L cc0_scoped2.sem) 0)

/-- The tile's shares of the inputs and its pieces of the two results, the pieces' elements as given. -/
def Hands (P : Nat → F .f32 → Prop) (R : Nat → BitVec 32 → Prop) : sProp 𝕄 :=
  iprop((Signal d L fx q ∗ Onsets d L fon q ∗ Starts d L fws q) ∗ Strip (tile d L) oM (4 * wid L * 61440) ((4 * wid L + 4) * 61440) P ∗ Counts d L R)

section

variable (on : IVec S128 32)

/-- The staging buffer and the output buffer, whole from their halves. -/
theorem halves_in : (Strip (tile d L) inB 0 62304 (fun _ _ => True) : sProp 𝕄) ⊢ iprop(Spare d L 0 ∗ Spare d L 1) :=
  strip_split (tile d L) (m := inB) (a := 0) (k := 31152) (b := 62304) (by omega) (by omega)

theorem in_halves : iprop(Spare d L 0 ∗ Spare d L 1) ⊢ (Strip (tile d L) inB 0 62304 (fun _ _ => True) : sProp 𝕄) :=
  strip_join (tile d L) (m := inB) (a := 0) (k := 31152) (b := 62304) (by omega) (by omega)

theorem halves_out (P : Nat → F .f32 → Prop) : (Strip (tile d L) outB 0 61440 P : sProp 𝕄) ⊢ iprop(Strip (tile d L) outB 0 (0 + 30720) P ∗ Strip (tile d L) outB 30720 (30720 + 30720) P) :=
  strip_split (tile d L) (m := outB) (a := 0) (k := 30720) (b := 61440) (by omega) (by omega)

theorem out_halves (P : Nat → F .f32 → Prop) : iprop(Strip (tile d L) outB 0 (0 + 30720) P ∗ Strip (tile d L) outB 30720 (30720 + 30720) P) ⊢ (Strip (tile d L) outB 0 61440 P : sProp 𝕄) :=
  strip_join (tile d L) (m := outB) (a := 0) (k := 30720) (b := 61440) (by omega) (by omega)

theorem going_first (sem : DmaSem sig) (a : Nat) :
    iprop(semVal (cell d L sem) 0 ∗ Strip (tile d L) outB a (a + 30720) Early) ⊢ (Going d L fx on sem a 0 : sProp 𝕄) :=
  Entails.of_eq (if_pos rfl).symm

/-- After the last trip. -/
theorem before_end :
    Before d L fx on q O W 4 ⊢ (iprop(Transfers.MayWaits (tile d L) (default : HIx 1) O ∗ (semVal (cell d L cc0_scratch5.sem) 0 ∗ Spare d L 0 ∗ Signal d L fx q) ∗ Spare d L 1
      ∗ Transfers.Flight countersEmb (tile d L) (.dma cc0_scratch6.sem) (default : HIx 1) cOut iprop(Piece d L fx on (4 * wid L + (4 - 1)) 0 ∗ Strip (tile d L) outB 0 (0 + 30720) Early)
      ∗ Transfers.Flight countersEmb (tile d L) (.dma cc0_scratch7.sem) (default : HIx 1) cOut iprop(Piece d L fx on (4 * wid L + (4 - 1)) 30720 ∗ Strip (tile d L) outB 30720 (30720 + 30720) Early)
      ∗ Done d L fx on 4 ∗ Rest d L 4 ∗ Owing d L O W) : sProp 𝕄) := by
  unfold Before Coming Going
  rw [if_neg (by decide), if_neg (by decide), if_neg (by decide)]

theorem landed_last (a : Nat) : Piece d L fx on (4 * wid L + (4 - 1)) a ⊢ (Landed d L fx on a 4 : sProp 𝕄) :=
  Entails.of_eq (if_neg (by decide)).symm

/-- The batch loop and the two waits after it. -/
theorem loop_part (hon : ∀ b < 128, -200 < (wordAt on b).toInt ∧ (wordAt on b).toInt < 200) (v31 : BitVec 32) (v45 : IVec S16 32) (v241 : FVec F S16 .f32)
    (hz : ∀ x, v241 x = zero) (h45 : ∀ j, v45 j = wordAt on (wid L / 4 * 16 + (j 0).val)) :
    Before d L fx on q O W 0
      ⊢ wp frame (wpE (defs₀ (F := F)) 𝒱₀ (tile d L) none) Set.univ
          (Scf.Loop.for k0_t2_loop k0_t2_ok ⟨⟩ (k0_t2_body L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2 (laneWord L) v31 v45 (iota .scVector S16 32 [0] iota_S16_d0_w32_scVector) k0_pay3 v241)
            >>= fun _ => Prog.op (.waitDma2 cc0_scratch6.sem (outB.slice (Rect.unit (s := S61440) ![0] S30720.size inb_S61440_S30720_0) (fun _ => rfl)) (oM.slice (Rect.unit (s := S7864320) ![0] S30720.size inb_S7864320_S30720_0) (fun _ => rfl)) (View.wordExact_bits rfl) (View.wordExact_bits rfl))
              fun _ => Prog.op (.waitDma2 cc0_scratch7.sem (outB.slice (Rect.unit (s := S61440) ![0] S30720.size inb_S61440_S30720_0) (fun _ => rfl)) (oM.slice (Rect.unit (s := S7864320) ![0] S30720.size inb_S7864320_S30720_0) (fun _ => rfl)) (View.wordExact_bits rfl) (View.wordExact_bits rfl))
                fun _ => (pure ⟨⟩ : Prog (TpuEff nD τ sig (Elt F) Λ₀ (tile d L).2) PUnit))
          fun _ => iprop((semVal (cell d L cc0_scratch5.sem) 0 ∗ semVal (cell d L cc0_scratch6.sem) 0 ∗ semVal (cell d L cc0_scratch7.sem) 0)
            ∗ Strip (tile d L) inB 0 62304 (fun _ _ => True) ∗ Strip (tile d L) outB 0 61440 (fun _ _ => True) ∗ Signal d L fx q
            ∗ Strip (tile d L) oM (4 * wid L * 61440) ((4 * wid L + 4) * 61440) (Good fx on) ∗ Owing d L O W) := by
  have hw := wid_lt L
  iintro H
  sl_for (fun k (_ : Unit) => Before d L fx on q O W k) $$ [H]
  case region =>
    intro k _
    have hk := t2_lt k
    exact trip d L fx on q O W hon v31 v45 v241 hz k ((h45 _).trans (congrArg (wordAt on) (by
      show wid L / 4 * 16 + (wid L % 4 * 4 + k.val) = _; omega)))
  · iexact H
  iintro %_ H
  ihave H := (show Before d L fx on q O W (Scf.trips k0_t2_loop.lb k0_t2_loop.ub k0_t2_loop.st) ⊢ _ from
    (Entails.of_eq (congrArg (Before d L fx on q O W) t2_trips)).trans (before_end d L fx q O W on)) $$ H
  icases H with ⟨#Hmw, ⟨Hs, Hi, Hx⟩, Hi', HA, HB, HD, HR, HO⟩
  iapply (wait_one d L O W (N := cOut) rfl) $$ [HA HO]
  · isplitr; · iexact Hmw
    isplitl [HA] <;> iassumption
  iintro ⟨⟨Ha, Hoa⟩, HsA, HO⟩
  iapply (wait_one d L O W (N := cOut) rfl) $$ [HB HO]
  · isplitr; · iexact Hmw
    isplitl [HB] <;> iassumption
  iintro ⟨⟨Hb, Hob⟩, HsB, HO⟩
  sl_step
  isplitl [Hs HsA HsB]
  · isplitl [Hs]; · iexact Hs
    isplitl [HsA] <;> iassumption
  isplitl [Hi Hi']
  · iapply (in_halves d L)
    isplitl [Hi] <;> iassumption
  isplitl [Hoa Hob]
  · iapply (strip_mono (tile d L) (P := Early) fun _ _ _ _ _ => trivial)
    iapply (out_halves d L Early)
    isplitl [Hoa] <;> iassumption
  isplitl [Hx]; · iexact Hx
  isplitl [HD Ha Hb]
  · iapply (collect d L fx on 4)
    isplitl [HD]; · iexact HD
    isplitl [Ha]
    · iapply (landed_last d L fx on 0) $$ Ha
    · iapply (landed_last d L fx on 30720) $$ Hb
  · iexact HO

end

/-- The whole task. -/
theorem task (hon : ∀ b < 128, -200 < (wordAt (onsets fon fws) b).toInt ∧ (wordAt (onsets fon fws) b).toInt < 200) :
    iprop(Transfers.MayWaits (tile d L) (default : HIx 1) O ∗ Hands d L fx fon fws q (fun _ _ => True) (fun _ _ => True) ∗ Idle d L ∗ Owing d L O W)
      ⊢ wp frame (wpE (defs₀ (F := F)) 𝒱₀ (tile d L) none) Set.univ (cc0__sc_patch L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2)
          fun _ => iprop(Hands d L fx fon fws q (Good fx (onsets fon fws)) (Counted (onsets fon fws)) ∗ Idle d L ∗ Owing d L O W) := by
  obtain ⟨v1, v18, v31, h4⟩ := words_part (F := F) L
  rw [cc0__sc_patch_eq_skeleton]
  unfold cc0__sc_patch_skel
  rw [h4]
  simp only [k0_part6_eq_skeleton, k0_part7_eq_skeleton, k0_part8_eq_skeleton]
  unfold k0_part6_skel k0_part7_skel k0_part8_skel
  simp only [Prog.lift, Prog.bind_op, Prog.bind_ret, pure_bind, bind_assoc]
  rw [wp_bind]
  unfold Hands Idle
  iintro ⟨#Hmw, ⟨⟨Hx, Hon, Hws⟩, Ho, Hn⟩, ⟨⟨Bi, Bo, Bon, Bws, Bn⟩, S5, S6, S7, R0, R1, R2⟩, HO⟩
  ihave ⟨Bi, Bi'⟩ := (halves_in d L) $$ Bi
  ihave H := (fetch_part d L fx fon fws q O W v18) $$ [S5 Bi Hx Hon Bon R0 Hws Bws R1 HO]
  · isplitr; · iexact Hmw
    isplitl [S5 Bi Hx]
    · isplitl [S5]; · iexact S5
      isplitl [Bi] <;> iassumption
    isplitl [Hon Bon R0]
    · isplitl [Hon]; · iexact Hon
      isplitl [Bon] <;> iassumption
    isplitl [Hws Bws R1]
    · isplitl [Hws]; · iexact Hws
      isplitl [Bws] <;> iassumption
    iexact HO
  iapply (wp_wand _ _ _) $$ H
  iintro %r ⟨%hr, Hin, ⟨Hon, Bon, R0⟩, ⟨Hws, Bws, R1⟩, HO⟩
  obtain ⟨v41, v42, hv, rfl⟩ := hr
  dsimp only
  rw [wp_bind]
  ihave H := (count_part d L O W (onsets fon fws) v1 v18 _ _ _ _ _ (fun j => (countVec_apply v41 v42 j).trans (congrArg (fun w => countTo w 20) (hv j)))) $$ [Hn Bn R2 Bo HO]
  · isplitr; · iexact Hmw
    isplitl [Hn Bn R2]
    · isplitl [Hn]; · iexact Hn
      isplitl [Bn] <;> iassumption
    isplitl [Bo] <;> iassumption
  iapply (wp_wand _ _ _) $$ H
  iintro %v241 ⟨%hz, ⟨Hn, Bn, R2⟩, Bo, HO⟩
  ihave ⟨Ba, Bb⟩ := (halves_out d L Early) $$ Bo
  ihave ⟨Hd, Ho⟩ := (strip_split (tile d L) (m := oM) (P := fun _ _ => True) (a := 4 * wid L * 61440) (k := 4 * wid L * 61440) (b := (4 * wid L + 4) * 61440) le_rfl (by omega)) $$ Ho
  ihave H := (loop_part d L fx q O W (onsets fon fws) hon v31 (k0_pay2 v41 v42) v241 hz hv) $$ [Hin Bi' S6 Ba S7 Bb Hd Ho HO]
  · unfold Before
    isplitr; · iexact Hmw
    isplitl [Hin]; · iexact Hin
    isplitl [Bi']; · iexact Bi'
    isplitl [S6 Ba]
    · iapply (going_first d L fx (onsets fon fws) cc0_scratch6.sem 0)
      isplitl [S6] <;> iassumption
    isplitl [S7 Bb]
    · iapply (going_first d L fx (onsets fon fws) cc0_scratch7.sem 30720)
      isplitl [S7] <;> iassumption
    isplitl [Hd]
    · iapply (strip_mono (tile d L) ?_) $$ Hd
      intro n w h1 h2 _
      exact absurd h2 (by omega)
    isplitl [Ho] <;> iassumption
  iapply (wp_wand _ _ _) $$ H
  iintro %_ ⟨⟨S5, S6, S7⟩, Bi, Bo, Hx, Ho, HO⟩
  isplitl [Hx Hon Hws Ho Hn]
  · isplitl [Hx Hon Hws]
    · isplitl [Hx]; · iexact Hx
      isplitl [Hon] <;> iassumption
    isplitl [Ho] <;> iassumption
  isplitr [HO]
  · isplitl [Bi Bo Bon Bws Bn]
    · isplitl [Bi]; · iexact Bi
      isplitl [Bo]; · iexact Bo
      isplitl [Bon]; · iexact Bon
      isplitl [Bws] <;> iassumption
    isplitl [S5]; · iexact S5
    isplitl [S6]; · iexact S6
    isplitl [S7]; · iexact S7
    isplitl [R0]; · iexact R0
    isplitl [R1] <;> iassumption
  iexact HO

end

end Cert.Proof.Task

end
-- ==== Proof.Deal.lean ====
/-
  The arrays dealt to the thirty-two tiles and collected from them: the inputs by read shares, the two results by
  pieces.
-/
module

public import proofs.«01_k».proof.Proof.Task
public import Idealize.ShloMosaic.Lib.ShareLeaves

@[expose] public section

noncomputable section

namespace Cert.Proof.Deal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Setup Cert.Proof.Pay Cert.Proof.Words Cert.Proof.Strip Cert.Proof.Rows Cert.Proof.Trip Cert.Proof.Tile Cert.Proof.Task

variable {F : FTy → Type} [FloatOps F]

local notation "𝕄" => MT nD τ sig (HIx 1) (Elt F) ℕ UU ℕ

/-! ## The tiles, numbered -/

/-- Tile `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem wid_coords (c : Fin 2) (s : Fin 16) : wid (coords c s) = c.val + 2 * s.val := by
  show s.val * 2 + c.val = _
  omega

/-- The tiles core by core are the tiles by number. -/
theorem by_number (Φ : Fin 32 → sProp 𝕄) :
    (bigSep Finset.univ fun c : Fin 2 => bigSep Finset.univ fun s : Fin 16 => Φ ⟨wid (coords c s), wid_lt _⟩) = bigSep Finset.univ Φ := by
  rw [bigSep_univ_equiv (finProdFinEquiv : Fin 16 × Fin 2 ≃ Fin (16 * 2)) Φ, bigSep_univ_prod, Pipeline.bigSep_univ_comm]
  exact bigSep_congr fun s _ => bigSep_congr fun c _ => congrArg Φ (Fin.ext (wid_coords c s))

/-! ## A buffer dealt in consecutive pieces -/

section

variable {N : Nat} {e : EltTy} {sp : Space} (c : Thread nD τ) (m : Memref sig c.2.kind sp (Line N) e) (cut : Nat → Nat) (P : Nat → Elt F e → Prop)

/-- Piece `w`, if it has any element. -/
def piece (w : Nat) : sProp 𝕄 := if cut w < cut (w + 1) then Strip c m (cut w) (cut (w + 1)) P else iprop(emp)

variable (hc : ∀ w, cut w ≤ cut (w + 1)) (h0 : cut 0 < cut 1)
include hc h0

theorem cut_le (n : Nat) : cut 0 ≤ cut (n + 1) := by
  induction n with
  | zero => exact hc 0
  | succ n ih => exact ih.trans (hc (n + 1))

theorem deal (n : Nat) : Strip c m (cut 0) (cut (n + 1)) P ⊢ (bigSep (Finset.range (n + 1)) (piece c m cut P) : sProp 𝕄) := by
  induction n with
  | zero =>
    rw [Finset.range_one, bigSep_singleton]
    exact .of_eq (if_pos h0).symm
  | succ n ih =>
    rw [Finset.range_add_one (n := n + 1), SparseCore.bigSep_insert' Finset.notMem_range_self]
    by_cases h : cut (n + 1) < cut (n + 1 + 1)
    · rw [show (piece c m cut P (n + 1) : sProp 𝕄) = _ from if_pos h]
      exact (strip_split c (cut_le cut hc h0 n) (hc _)).trans ((sep_mono ih .rfl).trans sep_comm.1)
    · rw [show (piece c m cut P (n + 1) : sProp 𝕄) = _ from if_neg h, show cut (n + 1 + 1) = cut (n + 1) from by have := hc (n + 1); omega]
      iintro H
      isplitr; · iempintro
      iapply ih $$ H

theorem undeal (n : Nat) : bigSep (Finset.range (n + 1)) (piece c m cut P) ⊢ (Strip c m (cut 0) (cut (n + 1)) P : sProp 𝕄) := by
  induction n with
  | zero =>
    rw [Finset.range_one, bigSep_singleton]
    exact .of_eq (if_pos h0)
  | succ n ih =>
    rw [Finset.range_add_one (n := n + 1), SparseCore.bigSep_insert' Finset.notMem_range_self]
    by_cases h : cut (n + 1) < cut (n + 1 + 1)
    · rw [show (piece c m cut P (n + 1) : sProp 𝕄) = _ from if_pos h]
      exact (sep_comm.1.trans (sep_mono ih .rfl)).trans (strip_join c (cut_le cut hc h0 n) (hc _))
    · rw [show cut (n + 1 + 1) = cut (n + 1) from by have := hc (n + 1); omega]
      iintro ⟨_, H⟩
      iapply ih $$ H

end

theorem range_fin (n : Nat) (Ψ : Nat → sProp 𝕄) : bigSep (Finset.range n) Ψ = bigSep Finset.univ fun i : Fin n => Ψ i.val := by
  rw [show Finset.range n = (Finset.univ : Finset (Fin n)).map Fin.valEmbedding by ext x; simp [Fin.exists_iff], bigSep_map]; rfl

/-! ## What the tiles take and hand back -/

section

variable (d : Dev nD) (fx : FVec F S3987456 .f32) (fon fws : FVec F S128 .f32)

/-- The first tile: the arrays are the same seen from any. -/
abbrev L₀ : grid0.Coords := coords (0 : Fin 2) (0 : Fin 16)

/-- What tile number `w` holds of the arrays. -/
def Held (P : Nat → F .f32 → Prop) (R : Nat → BitVec 32 → Prop) (w : Fin 32) : sProp 𝕄 :=
  iprop((Signal d L₀ fx (ShareLeaves.leaf 5 fullShare w) ∗ Onsets d L₀ fon (ShareLeaves.leaf 5 fullShare w) ∗ Starts d L₀ fws (ShareLeaves.leaf 5 fullShare w))
    ∗ piece (tile d L₀) oM (fun w => 4 * w * 61440) P w.val ∗ piece (tile d L₀) nM (fun w => (w + 3) / 4 * 16) R w.val)

theorem held_hands (L : grid0.Coords) (P : Nat → F .f32 → Prop) (R : Nat → BitVec 32 → Prop) :
    (Held d fx fon fws P R ⟨wid L, wid_lt L⟩ : sProp 𝕄) = Hands d L fx fon fws (ShareLeaves.leaf 5 fullShare ⟨wid L, wid_lt L⟩) P R := by
  unfold Held Hands
  have ho : (piece (tile d L₀) oM (fun w => 4 * w * 61440) P (wid L) : sProp 𝕄) = Strip (tile d L) oM (4 * wid L * 61440) ((4 * wid L + 4) * 61440) P :=
    if_pos (by show 4 * wid L * 61440 < 4 * (wid L + 1) * 61440; omega)
  have hn : (piece (tile d L₀) nM (fun w => (w + 3) / 4 * 16) R (wid L) : sProp 𝕄) = Counts d L R := by
    unfold piece Counts
    by_cases h : wid L % 4 = 0
    · rw [if_pos h, if_pos (by show (wid L + 3) / 4 * 16 < (wid L + 1 + 3) / 4 * 16; omega)]
      show (Strip (tile d L) nM ((wid L + 3) / 4 * 16) ((wid L + 1 + 3) / 4 * 16) R : sProp 𝕄) = (Strip (tile d L) nM _ _ R : sProp 𝕄)
      rw [show (wid L + 3) / 4 = wid L / 4 by omega, show (wid L + 1 + 3) / 4 * 16 = wid L / 4 * 16 + 16 by omega]
    · rw [if_neg h, if_neg (by show ¬ (wid L + 3) / 4 * 16 < (wid L + 1 + 3) / 4 * 16; omega)]
  rw [ho, hn]

/-- The three inputs, whole. -/
def Inputs : sProp 𝕄 :=
  iprop((((SparseCore.T d).loc main_v1) ↦{fullShare} fx) ∗ (((SparseCore.T d).loc main_arg1) ↦{fullShare} fon) ∗ (((SparseCore.T d).loc main_arg2) ↦{fullShare} fws))

theorem leaves (b : Ref sig .tc) (f : Buf (Elt F) ((SparseCore.T d).loc b)) :
    ((((SparseCore.T d).loc b) ↦{fullShare} f) : sProp 𝕄) = bigSep Finset.univ fun w : Fin 32 => (((SparseCore.T d).loc b) ↦{ShareLeaves.leaf 5 fullShare w} f) :=
  ShareLeaves.pointsTo_leaves Finset.univ f 5 fullShare

theorem deal_out (P : Nat → F .f32 → Prop) (R : Nat → BitVec 32 → Prop) :
    (iprop(Inputs d fx fon fws
      ∗ Strip (tile d L₀) oM 0 7864320 P ∗ Strip (tile d L₀) nM 0 128 R) : sProp 𝕄) ⊢ bigSep Finset.univ (Held d fx fon fws P R) := by
  unfold Held Inputs
  rw [bigSep_sep', bigSep_sep', bigSep_sep', bigSep_sep', leaves d main_v1, leaves d main_arg1, leaves d main_arg2]
  refine BIClass.sep_mono (Entails.of_eq rfl) (BIClass.sep_mono ?_ ?_)
  · rw [← range_fin 32 (piece (tile d L₀) oM (fun w => 4 * w * 61440) P)]
    exact (Entails.of_eq (congrArg₂ (fun a b => (Strip (tile d L₀) oM a b P : sProp 𝕄)) (show 0 = (fun w => 4 * w * 61440) 0 by norm_num) (show 7864320 = (fun w => 4 * w * 61440) (31 + 1) by norm_num))).trans (deal (tile d L₀) oM (fun w => 4 * w * 61440) P (fun w => by omega) (by decide) 31)
  · rw [← range_fin 32 (piece (tile d L₀) nM (fun w => (w + 3) / 4 * 16) R)]
    exact (Entails.of_eq (congrArg₂ (fun a b => (Strip (tile d L₀) nM a b R : sProp 𝕄)) (show 0 = (fun w => (w + 3) / 4 * 16) 0 by norm_num) (show 128 = (fun w => (w + 3) / 4 * 16) (31 + 1) by norm_num))).trans (deal (tile d L₀) nM (fun w => (w + 3) / 4 * 16) R (fun w => by omega) (by decide) 31)

theorem deal_in (P : Nat → F .f32 → Prop) (R : Nat → BitVec 32 → Prop) :
    bigSep Finset.univ (Held d fx fon fws P R) ⊢ (iprop(Inputs d fx fon fws
      ∗ Strip (tile d L₀) oM 0 7864320 P ∗ Strip (tile d L₀) nM 0 128 R) : sProp 𝕄) := by
  unfold Held Inputs
  rw [bigSep_sep', bigSep_sep', bigSep_sep', bigSep_sep', leaves d main_v1, leaves d main_arg1, leaves d main_arg2]
  refine BIClass.sep_mono (Entails.of_eq rfl) (BIClass.sep_mono ?_ ?_)
  · rw [← range_fin 32 (piece (tile d L₀) oM (fun w => 4 * w * 61440) P)]
    exact (undeal (tile d L₀) oM (fun w => 4 * w * 61440) P (fun w => by omega) (by decide) 31).trans (Entails.of_eq (congrArg₂ (fun a b => (Strip (tile d L₀) oM a b P : sProp 𝕄)) (show 0 = (fun w => 4 * w * 61440) 0 by norm_num) (show 7864320 = (fun w => 4 * w * 61440) (31 + 1) by norm_num)).symm)
  · rw [← range_fin 32 (piece (tile d L₀) nM (fun w => (w + 3) / 4 * 16) R)]
    exact (undeal (tile d L₀) nM (fun w => (w + 3) / 4 * 16) R (fun w => by omega) (by decide) 31).trans (Entails.of_eq (congrArg₂ (fun a b => (Strip (tile d L₀) nM a b R : sProp 𝕄)) (show 0 = (fun w => (w + 3) / 4 * 16) 0 by norm_num) (show 128 = (fun w => (w + 3) / 4 * 16) (31 + 1) by norm_num)).symm)

end

end Cert.Proof.Deal

end
-- ==== Proof.Launch.lean ====
/-
  The launch: each tile's obligation, the arrays handed to the tiles and back, the host's operations around the call,
  and the run of the whole program with the memory it ends at.
-/
module

public import proofs.«01_k».proof.Proof.Deal
public import Idealize.ShloMosaic.Lib.SparseCore.Quiescent
public import Idealize.ShloMosaic.Lib.StableHlo.Run
public import Idealize.ShloMosaic.Lib.Pipeline.Frame

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr wp_seq seq after launchContents)
open Cert.Proof.Setup Cert.Proof.Pay Cert.Proof.Words Cert.Proof.Strip Cert.Proof.Rows Cert.Proof.Trip Cert.Proof.Tile Cert.Proof.Task Cert.Proof.Deal

variable {F : FTy → Type} [FloatOps F]

local notation "𝕄" => MT nD τ sig (HIx 1) (Elt F) ℕ UU ℕ

/-! ## The host's operations -/

/-- The host's operations before the call: the first samples of every channel, flattened. -/
def before : List (HloOp τ sig (Elt F)) := [
    StableHlo.unary main_arg0 main_v0 ((extractStridedSlice S128x22x1416 ![0, 0, 0] · slices_S128x22x12000_S128x22x1416_0_0_0) : (⟨S128x22x12000, .f32⟩ : BufTy).Contents (Elt F) → (⟨S128x22x1416, .f32⟩ : BufTy).Contents (Elt F)),
    StableHlo.reshape main_v0 main_v1 (rfl : (.f32 : EltTy) = .f32) shapeCasts_S128x22x1416_S3987456]

/-- The host's operations after it: the padding cut off the patches, and the relative times. -/
def behind : List (HloOp τ sig (Elt F)) := [
    StableHlo.reshape main_v2_0 main_v3 (rfl : (.f32 : EltTy) = .f32) shapeCasts_S7864320_S128x20x24x128,
    StableHlo.unary main_v3 main_v4 ((extractStridedSlice S128x20x22x100 ![0, 0, 0, 0] · slices_S128x20x24x128_S128x20x22x100_0_0_0_0) : (⟨S128x20x24x128, .f32⟩ : BufTy).Contents (Elt F) → (⟨S128x20x22x100, .f32⟩ : BufTy).Contents (Elt F)),
    StableHlo.nullary main_v5 (iotaInDim S20 32 0),
    StableHlo.nullary main_c (constantI S_ 32 4294967288#32),
    StableHlo.unary main_c main_v6 (broadcastInDim S20 ![] bcast_S_S20 : (⟨S_, .i32⟩ : BufTy).Contents (Elt F) → (⟨S20, .i32⟩ : BufTy).Contents (Elt F)),
    StableHlo.binary main_v6 main_v5 main_v7 (addi : (⟨S20, .i32⟩ : BufTy).Contents (Elt F) → (⟨S20, .i32⟩ : BufTy).Contents (Elt F) → (⟨S20, .i32⟩ : BufTy).Contents (Elt F)),
    StableHlo.nullary main_c_0 (constantI S_ 32 100#32),
    StableHlo.unary main_c_0 main_v8 (broadcastInDim S20 ![] bcast_S_S20 : (⟨S_, .i32⟩ : BufTy).Contents (Elt F) → (⟨S20, .i32⟩ : BufTy).Contents (Elt F)),
    StableHlo.binary main_v7 main_v8 main_v9 (muli : (⟨S20, .i32⟩ : BufTy).Contents (Elt F) → (⟨S20, .i32⟩ : BufTy).Contents (Elt F) → (⟨S20, .i32⟩ : BufTy).Contents (Elt F)),
    StableHlo.unary main_v9 main_v10 (sitofp .f32 : (⟨S20, .i32⟩ : BufTy).Contents (Elt F) → (⟨S20, .f32⟩ : BufTy).Contents (Elt F)),
    StableHlo.nullary main_cst (constant S_ .f32 0x43480000#32),
    StableHlo.unary main_cst main_v11 (broadcastInDim S20 ![] bcast_S_S20 : (⟨S_, .f32⟩ : BufTy).Contents (Elt F) → (⟨S20, .f32⟩ : BufTy).Contents (Elt F)),
    StableHlo.binary main_v10 main_v11 main_v12 (Host.divf : (⟨S20, .f32⟩ : BufTy).Contents (Elt F) → (⟨S20, .f32⟩ : BufTy).Contents (Elt F) → (⟨S20, .f32⟩ : BufTy).Contents (Elt F)),
    StableHlo.unary main_v12 main_v13 (broadcastInDim S1x20 ![1] bcast_S20_S1x20_1 : (⟨S20, .f32⟩ : BufTy).Contents (Elt F) → (⟨S1x20, .f32⟩ : BufTy).Contents (Elt F)),
    StableHlo.unary main_v13 main_v14 (broadcastInDim S128x20 ![0, 1] bcast_S1x20_S128x20_0_1 : (⟨S1x20, .f32⟩ : BufTy).Contents (Elt F) → (⟨S128x20, .f32⟩ : BufTy).Contents (Elt F))]

theorem main_eq (d : Dev nD) : main (F := F) d = (seq before >>= fun _ => (K (F := F)).run d 0 >>= fun _ => seq behind >>= fun _ => pure ⟨⟩) := rfl

/-! ## The contents along the way -/

section

variable (m : (ℓ : Loc nD τ sig) → Buf (Elt F) ℓ) (ρ : Dev nD → PrngReg)

/-- Device `d`'s arrays at the call. -/
def V₁ (d : Dev nD) : Valuation τ sig (Elt F) := after before (launchContents m d)

abbrev xR : DevRef τ sig := Proc.devRef .tc (main_v1 : Ref sig .tc)
abbrev onR : DevRef τ sig := Proc.devRef .tc (main_arg1 : Ref sig .tc)
abbrev wsR : DevRef τ sig := Proc.devRef .tc (main_arg2 : Ref sig .tc)
abbrev oR : DevRef τ sig := Proc.devRef .tc (main_v2_0 : Ref sig .tc)
abbrev nR : DevRef τ sig := Proc.devRef .tc (main_v2_1 : Ref sig .tc)

/-- The signal and the two time arrays as the kernel reads them. -/
def fx (d : Dev nD) : FVec F S3987456 .f32 := V₁ m d xR
def fon (d : Dev nD) : FVec F S128 .f32 := V₁ m d onR
def fws (d : Dev nD) : FVec F S128 .f32 := V₁ m d wsR

/-- The onsets the kernel works from. -/
abbrev ons (d : Dev nD) : IVec S128 32 := onsets (fon m d) (fws m d)

/-- What tile `L` is handed. -/
abbrev Part (d : Dev nD) (L : grid0.Coords) (P : Nat → F .f32 → Prop) (R : Nat → BitVec 32 → Prop) : sProp 𝕄 :=
  Hands d L (fx m d) (fon m d) (fws m d) (ShareLeaves.leaf 5 fullShare ⟨wid L, wid_lt L⟩) P R

instance hands_storable (d : Dev nD) (L : grid0.Coords) (x : FVec F S3987456 .f32) (a b : FVec F S128 .f32) (q : PosShare TreeShare) (P : Nat → F .f32 → Prop) (R : Nat → BitVec 32 → Prop) :
    Storable (upEmb : UEmb _ 𝕄) (Hands d L x a b q P R) := by
  unfold Hands Counts
  split <;> infer_instance

theorem nCore_zero : (K (F := F)).nCore 0 = 2 := rfl
theorem nSub_zero : (K (F := F)).nSub 0 = 16 := rfl

abbrev at₂ (c : Fin ((K (F := F)).nCore 0)) (i : Fin ((K (F := F)).nSub 0)) : grid0.Coords := coords (Fin.cast nCore_zero c) (Fin.cast nSub_zero i)

/-- Each core is handed its tiles' parts. -/
def P : (K (F := F)).Pay (nD := nD) (Val := Elt F) (Name := ℕ) (U := UU) where
  st := fun q d c => match q with | 0 => bigSep Finset.univ fun i => Part m d (at₂ c i) (fun _ _ => True) (fun _ _ => True)
  dn := fun q d c => match q with | 0 => bigSep Finset.univ fun i => Part m d (at₂ c i) (Good (fx m d) (ons m d)) (Counted (ons m d))
  go := fun q d c i => match q with | 0 => Part m d (at₂ c i) (fun _ _ => True) (fun _ _ => True)
  td := fun q d c i => match q with | 0 => Part m d (at₂ c i) (Good (fx m d) (ons m d)) (Counted (ons m d))
  x := fun _ _ => iprop(emp)

instance P_storable : (P (F := F) m).IsStorable where
  st q d c := match q with
    | 0 => (inferInstance : Storable (upEmb : UEmb _ 𝕄) (bigSep Finset.univ fun i => Part m d (at₂ c i) (fun _ _ => True) (fun _ _ => True)))
  dn q d c := match q with
    | 0 => (inferInstance : Storable (upEmb : UEmb _ 𝕄) (bigSep Finset.univ fun i => Part m d (at₂ c i) (Good (fx m d) (ons m d)) (Counted (ons m d))))
  go q d c i := match q with
    | 0 => (inferInstance : Storable (upEmb : UEmb _ 𝕄) (Part m d (at₂ c i) (fun _ _ => True) (fun _ _ => True)))
  td q d c i := match q with
    | 0 => (inferInstance : Storable (upEmb : UEmb _ 𝕄) (Part m d (at₂ c i) (Good (fx m d) (ons m d)) (Counted (ons m d))))

/-- The onsets are in range. -/
def InRange : Prop := ∀ d : Dev nD, ∀ b < 128, -200 < (wordAt (ons m d) b).toInt ∧ (wordAt (ons m d) b).toInt < 200

variable (hr : InRange m)
include hr

/-! ## A tile's obligation -/

theorem tile_body (d : Dev nD) (L : grid0.Coords) (O : CellTallies nD τ sig (HIx 1)) (W : Waits sig (HIx 1)) (hO : ∀ g, O g none = 0) :
    iprop(levAts (K (F := F)).L (K (F := F)).lev ∗ emp ∗ Part m d L (fun _ _ => True) (fun _ _ => True)
        ∗ scopedBufs (tile d L) ∗ scopedSems0 (tile d L) ∗ owes (tile d L) O W)
      ⊢ wp frame (wpE (defs₀ (F := F)) 𝒱₀ (tile d L) none) Set.univ
          (cc0__sc_patch L xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2)
          fun _ => iprop(Part m d L (Good (fx m d) (ons m d)) (Counted (ons m d)) ∗ scopedBufs (tile d L) ∗ scopedSems0 (tile d L)
            ∗ ∃ W', ⌜∀ p ∈ W', p ∈ W ∨ p.2 = none ∨ p.2 = some 0⌝ ∗ owes (tile d L) O W') := by
  rw [(K (F := F)).scopedBufs_V facts d (cV L) (jV L), SparseCore.Cfg.scopedSems0_V (Val := Elt F) d (cV L) (jV L), ownSems0_V, ownBufs_V]
  iintro ⟨#Hlv, _, Hp, ⟨B0, B1, B2, B3, B4, Hbufs⟩, ⟨S5, S6, S7, R0, R1, R2, Hsems⟩, HO⟩
  ihave Hmw := (show levAts (K (F := F)).L (K (F := F)).lev ⊢ Transfers.MayWaits (tile d L) (default : HIx 1) O from (K (F := F)).mayWaits_none (thr := tile d L) hO) $$ Hlv
  ihave B0 := (strip_of_whole d L inB (View.set_whole _)) $$ B0
  ihave B1 := (strip_of_whole d L outB (View.set_whole _)) $$ B1
  ihave B2 := (strip_of_whole d L onB (View.set_whole _)) $$ B2
  ihave B3 := (strip_of_whole d L wsB (View.set_whole _)) $$ B3
  ihave B4 := (strip_of_whole d L nB (View.set_whole _)) $$ B4
  ihave H := (task d L (fx m d) (fon m d) (fws m d) (ShareLeaves.leaf 5 fullShare ⟨wid L, wid_lt L⟩) O W (hr d)) $$ [Hmw Hp B0 B1 B2 B3 B4 S5 S6 S7 R0 R1 R2 HO]
  · isplitl [Hmw]; · iexact Hmw
    isplitl [Hp]; · iexact Hp
    isplitr [HO]
    · unfold Idle
      isplitl [B0 B1 B2 B3 B4]
      · isplitl [B0]; · iexact B0
        isplitl [B1]; · iexact B1
        isplitl [B2]; · iexact B2
        isplitl [B3] <;> iassumption
      isplitl [S5]; · iexact S5
      isplitl [S6]; · iexact S6
      isplitl [S7]; · iexact S7
      isplitl [R0]; · iexact R0
      isplitl [R1] <;> iassumption
    · unfold Owing
      iexists W
      isplitr
      · ipureintro; exact fun p hp => .inl hp
      · iexact HO
  iapply (wp_wand _ _ _) $$ H
  iintro %_ ⟨Hp, Hi, HO⟩
  unfold Idle Owing
  icases Hi with ⟨⟨B0, B1, B2, B3, B4⟩, S5, S6, S7, R0, R1, R2⟩
  icases HO with ⟨%W', %hW, HO⟩
  ihave B0 := (whole_of_strip d L inB (View.set_whole _) _) $$ B0
  ihave B1 := (whole_of_strip d L outB (View.set_whole _) _) $$ B1
  ihave B2 := (whole_of_strip d L onB (View.set_whole _) _) $$ B2
  ihave B3 := (whole_of_strip d L wsB (View.set_whole _) _) $$ B3
  ihave B4 := (whole_of_strip d L nB (View.set_whole _) _) $$ B4
  isplitl [Hp]; · iexact Hp
  isplitl [B0 B1 B2 B3 B4 Hbufs]
  · isplitl [B0]; · iexact B0
    isplitl [B1]; · iexact B1
    isplitl [B2]; · iexact B2
    isplitl [B3]; · iexact B3
    isplitl [B4] <;> iassumption
  isplitl [S5 S6 S7 R0 R1 R2 Hsems]
  · isplitl [S5]; · iexact S5
    isplitl [S6]; · iexact S6
    isplitl [S7]; · iexact S7
    isplitl [R0]; · iexact R0
    isplitl [R1]; · iexact R1
    isplitl [R2] <;> iassumption
  iexists W'
  isplitr
  · ipureintro; exact fun p hp => (hW p hp).imp id .inl
  · iexact HO

omit hr in
theorem defs₀_vector (c : Fin τ.nSC) (s : Fin τ.nSub) :
    defs₀ (F := F) (.scVector c s) 0 ()
      = SparseCore.onTile hcore0 hsub0 (fun c s => cc0__sc_patch (coords c s) xM (Memref.isWhole_whole _) onM (Memref.isWhole_whole _) wsM (Memref.isWhole_whole _) oM (Memref.isWhole_whole _) nM (Memref.isWhole_whole _)
            inB (Memref.isWhole_whole _) outB (Memref.isWhole_whole _) onB (Memref.isWhole_whole _) wsB (Memref.isWhole_whole _) nB (Memref.isWhole_whole _)
            cc0_scratch5 cc0_scratch6 cc0_scratch7 cc0_scoped0 cc0_scoped1 cc0_scoped2) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hr d (coords ⟨_, hci.1⟩ ⟨_, hci.2⟩) O W hO

end

end Cert.Proof.Launch

end
-- ==== Proof.Run.lean ====
/-
  The run of the whole program: the arrays handed to the cores and taken back, the main program on its core, and the
  memory at the end.
-/
module

public import proofs.«01_k».proof.Proof.Launch

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr wp_seq seq after launchContents)
open Idealize.ShloMosaic.Rounds
open Cert.Proof.Setup Cert.Proof.Pay Cert.Proof.Words Cert.Proof.Strip Cert.Proof.Rows Cert.Proof.Trip Cert.Proof.Tile Cert.Proof.Task Cert.Proof.Deal Cert.Proof.Launch

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps, emps]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The arrays the call takes, out of the host's and back -/

/-- What the call leaves in its two results. -/
def Left (d : Dev nD) (o : FVec F S7864320 .f32) (n : IVec S128 32) : Prop :=
  (∀ y, Good (fx m d) (ons m d) (y 0).val (o y)) ∧ ∀ y, Counted (ons m d) (y 0).val (n y)

/-- Device `d`'s arrays after the call. -/
def V₂ (d : Dev nD) (o : FVec F S7864320 .f32) (n : IVec S128 32) : Valuation τ sig (Elt F) :=
  Function.update (Function.update (V₁ m d) oR o) nR n

/-- Device `d`'s arrays at the end. -/
def V₃ (d : Dev nD) (o : FVec F S7864320 .f32) (n : IVec S128 32) : Valuation τ sig (Elt F) := after behind (V₂ m d o n)

/-- The call's arrays. -/
def taken : Finset (DevRef τ sig) := {xR, onR, wsR, oR, nR}

theorem taken_sub : taken ⊆ Pipeline.ucRefs τ sig := by
  intro b hb
  simp only [taken, Finset.mem_insert, Finset.mem_singleton] at hb
  obtain h | h | h | h | h := hb <;> subst h <;> exact Finset.mem_filter.mpr ⟨StableHlo.devRef_mem_tcRefs _, by decide⟩

theorem held_taken (d : Dev nD) (V : Valuation τ sig (Elt F)) :
    (held (SparseCore.T d) taken V : sProp 𝕄) = iprop((((SparseCore.T d).loc main_v1) ↦{fullShare} V xR) ∗ (((SparseCore.T d).loc main_arg1) ↦{fullShare} V onR)
      ∗ (((SparseCore.T d).loc main_arg2) ↦{fullShare} V wsR) ∗ (((SparseCore.T d).loc main_v2_0) ↦{fullShare} V oR) ∗ (((SparseCore.T d).loc main_v2_1) ↦{fullShare} V nR)) := by
  unfold held taken
  rw [SparseCore.bigSep_insert' (by decide), SparseCore.bigSep_insert' (by decide), SparseCore.bigSep_insert' (by decide), SparseCore.bigSep_insert' (by decide), bigSep_singleton]

theorem held_split₁ (d : Dev nD) : (held (d.tc : Thread nD τ) (Pipeline.ucRefs τ sig) (after before (launchContents m d)) : sProp 𝕄)
    = iprop(held (SparseCore.T d) taken (V₁ m d) ∗ held (SparseCore.T d) (Pipeline.ucRefs τ sig \ taken) (V₁ m d)) := held_sub_split (SparseCore.T d) taken_sub (V₁ m d)

theorem held_rest (d : Dev nD) (o : FVec F S7864320 .f32) (n : IVec S128 32) :
    (held (SparseCore.T d) (Pipeline.ucRefs τ sig \ taken) (V₁ m d) : sProp 𝕄) = held (SparseCore.T d) (Pipeline.ucRefs τ sig \ taken) (V₂ m d o n) := by
  refine held_congr _ fun b hb => ?_
  have hb := (Finset.mem_sdiff.mp hb).2
  unfold V₂
  rw [Function.update_of_ne (fun h => hb (by rw [h]; decide)), Function.update_of_ne (fun h => hb (by rw [h]; decide))]

/-- A whole strip is its array, every element as the strip says. -/
theorem strip_whole (d : Dev nD) (L : grid0.Coords) {N : Nat} {e : EltTy} {sp : Space} (M : Memref sig .scVector sp (Line N) e) (hm : M.view.set = Finset.univ) (R : Nat → Elt F e → Prop) :
    (Strip (tile d L) M 0 N R : sProp 𝕄) ⊢ iprop(∃ f, ⌜∀ y, R (y 0).val (M.view.read (Elt F) f y)⌝ ∗ (M.view.loc (tile d L) ↦{fullShare} f)) := by
  unfold Strip
  rw [seg_all, View.setOn_univ, hm]
  iintro ⟨%f, %h, H⟩
  iexists f
  isplitr
  · ipureintro; exact fun y => h y (Nat.zero_le _) (y 0).isLt
  · iexact H

theorem parts (d : Dev nD) (R : Nat → F .f32 → Prop) (R' : Nat → BitVec 32 → Prop) :
    (bigSep Finset.univ fun c : Fin 2 => bigSep Finset.univ fun i : Fin 16 => Part m d (coords c i) R R' : sProp 𝕄)
      = bigSep Finset.univ (Held d (fx m d) (fon m d) (fws m d) R R') := by
  rw [← by_number]
  exact bigSep_congr fun c _ => bigSep_congr fun i _ => (held_hands d (fx m d) (fon m d) (fws m d) (coords c i) R R').symm

theorem hand_out (d : Dev nD) :
    (held (SparseCore.T d) taken (V₁ m d) : sProp 𝕄) ⊢ bigSep Finset.univ fun c : Fin ((K (F := F)).nCore 0) => (P m).st 0 d c := by
  rw [held_taken, show (bigSep Finset.univ fun c : Fin ((K (F := F)).nCore 0) => (P m).st 0 d c) = _ from parts m d (fun _ _ => True) (fun _ _ => True)]
  iintro ⟨H1, H2, H3, H4, H5⟩
  iapply (deal_out d (fx m d) (fon m d) (fws m d) (fun _ _ => True) (fun _ _ => True))
  unfold Inputs
  isplitl [H1 H2 H3]
  · isplitl [H1]; · iexact H1
    isplitl [H2]; · iexact H2
    iexact H3
  isplitl [H4]
  · iapply (strip_of_whole d L₀ oM (View.set_whole _))
    iexists (V₁ m d oR); iexact H4
  · iapply (strip_of_whole d L₀ nM (View.set_whole _))
    iexists (V₁ m d nR); iexact H5

theorem hand_in (d : Dev nD) :
    (bigSep Finset.univ fun c : Fin ((K (F := F)).nCore 0) => (P m).dn 0 d c)
      ⊢ (iprop(∃ (o : FVec F S7864320 .f32) (n : IVec S128 32), ⌜Left m d o n⌝ ∗ held (SparseCore.T d) taken (V₂ m d o n)) : sProp 𝕄) := by
  rw [show (bigSep Finset.univ fun c : Fin ((K (F := F)).nCore 0) => (P m).dn 0 d c) = _ from parts m d (Good (fx m d) (ons m d)) (Counted (ons m d))]
  iintro H
  ihave H := (deal_in d (fx m d) (fon m d) (fws m d) (Good (fx m d) (ons m d)) (Counted (ons m d))) $$ H
  unfold Inputs
  icases H with ⟨⟨H1, H2, H3⟩, H4, H5⟩
  ihave H4 := (strip_whole d L₀ oM (View.set_whole _) _) $$ H4
  ihave H5 := (strip_whole d L₀ nM (View.set_whole _) _) $$ H5
  icases H4 with ⟨%o, %ho, H4⟩
  icases H5 with ⟨%n, %hn, H5⟩
  iexists o
  iexists n
  isplitr
  · ipureintro; exact ⟨ho, hn⟩
  iapply (Entails.of_eq (held_taken d (V₂ m d o n)).symm)
  isplitl [H1]; · iexact H1
  isplitl [H2]; · iexact H2
  isplitl [H3]; · iexact H3
  isplitl [H4]; · iexact H4
  iexact H5

theorem vecSplit : (K (F := F)).VecSplit' (P m) 0 := by
  intro d c
  simp only [P]
  iintro H; imodintro
  isplitl [H]; · iexact H
  iintro H; iexact H

/-! ## The main program -/

theorem before_sub : ∀ op ∈ before (F := F), op.bufs ⊆ Pipeline.ucRefs τ sig := by
  intro op hop
  refine Pipeline.sub_ucRefs op ?_
  simp only [before, List.mem_cons, List.not_mem_nil, or_false] at hop
  rcases hop with h | h <;> subst h <;> simp

theorem behind_sub : ∀ op ∈ behind (F := F), op.bufs ⊆ Pipeline.ucRefs τ sig := by
  intro op hop
  refine Pipeline.sub_ucRefs op ?_
  simp only [behind, List.mem_cons, List.not_mem_nil, or_false] at hop
  rcases hop with h | h | h | h | h | h | h | h | h | h | h | h | h | h | h <;> subst h <;> simp

theorem before_fresh : ∀ op ∈ before (F := F), op.fresh = ∅ := List.forall_iff_forall_mem.mp (StableHlo.forall_fresh_of_map rfl)
theorem behind_fresh : ∀ op ∈ behind (F := F), op.fresh = ∅ := List.forall_iff_forall_mem.mp (StableHlo.forall_fresh_of_map rfl)

/-- What the main program ends with: every array of the host's. -/
def FIN (d : Dev nD) : sProp 𝕄 :=
  iprop(∃ (o : FVec F S7864320 .f32) (n : IVec S128 32), ⌜Left m d o n⌝ ∗ held (SparseCore.T d) (Pipeline.ucRefs τ sig) (V₃ m d o n))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄) = held (SparseCore.T d) (Pipeline.ucRefs τ sig) (launchContents m d) from
    Pipeline.unscopedBufs_held d (launchContents m d), main_eq]
  iintro ⟨#Hctx, Hst, ⟨Hb, Hh, Hts, -⟩, -⟩
  iapply (wp_seq 𝒱 none Set.univ d (Pipeline.ucRefs τ sig) _ before before_sub before_fresh (launchContents m d)) $$ [Hb Hh]
  · isplitl [Hb] <;> iassumption
  iintro ⟨Hb, Hh⟩
  ihave Hh := (Entails.of_eq (held_split₁ m d)) $$ Hh
  icases Hh with ⟨Ht, Hh⟩
  ihave Ht := (hand_out m d) $$ Ht
  rw [wp_bind]
  iapply ((K (F := F)).wp_run (D (F := F)) 𝒱 (EH := EH) (P := P m) κ d 0) $$ [Hst Ht Hh Hb Hts]
  isplitr; · iexact Hctx
  isplitl [Hst]; · iexact Hst
  isplitl [Ht]; · iexact Ht
  iintro ⟨Hst, Ht⟩
  ihave Ht := (hand_in m d) $$ Ht
  icases Ht with ⟨%o, %n, %ho, Ht⟩
  ihave Hh := (Entails.of_eq (held_rest m d o n)) $$ Hh
  ihave Hh := (Entails.of_eq (held_sub_split (SparseCore.T d) taken_sub (V₂ m d o n)).symm) $$ [Ht Hh]
  · isplitl [Ht] <;> iassumption
  iapply (wp_seq 𝒱 none Set.univ d (Pipeline.ucRefs τ sig) _ behind behind_sub behind_fresh (V₂ m d o n)) $$ [Hb Hh]
  · isplitl [Hb] <;> iassumption
  iintro ⟨Hb, Hh⟩
  rw [wp_pure]
  imodintro
  isplitl [Hst]; · iexact Hst
  isplitl [Hh]
  · unfold FIN
    iexists o
    iexists n
    isplitr
    · ipureintro; exact ho
    · iexact Hh
  isplitl [Hb] <;> iassumption

/-! ## The memory at the end -/

/-- Every array of the host's is as the main program left it. -/
def fq (d : Dev nD) (s' : Phys nD τ sig (Elt F)) : Prop :=
  ∃ (o : FVec F S7864320 .f32) (n : IVec S128 32), Left m d o n ∧ ∀ b ∈ Pipeline.ucRefs τ sig, s'.mem.mem (d, b) = V₃ m d o n b

theorem held_agree (d : Dev nD) (V : Valuation τ sig (Elt F)) (s' : Phys nD τ sig (Elt F)) (b : DevRef τ sig) (hb : b ∈ Pipeline.ucRefs τ sig) :
    (iprop(held (SparseCore.T d) (Pipeline.ucRefs τ sig) V ∗ SI s') : sProp 𝕄) ⊢ ⌜s'.mem.mem (d, b) = V b⌝ := by
  unfold held
  rw [← Finset.insert_erase hb, SparseCore.bigSep_insert' (Finset.notMem_erase b _)]
  iintro ⟨⟨H, -⟩, HSI⟩
  ihave H := (SI_pointsTo_agree (st := s') (ℓ := (d, b)) (I := Finset.univ) (q := fullShare) (f := V b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  unfold FIN
  iintro ⟨⟨%o, %n, %ho, H⟩, HSI⟩
  ihave H := (show (iprop(held (SparseCore.T d) (Pipeline.ucRefs τ sig) (V₃ m d o n) ∗ SI s') : sProp 𝕄) ⊢ ⌜∀ b ∈ Pipeline.ucRefs τ sig, s'.mem.mem (d, b) = V₃ m d o n b⌝ from
    (forall_intro fun b => (forall_intro fun hb => held_agree d _ s' b hb).trans pure_forall.2).trans pure_forall.2) $$ [H HSI]
  · isplitl [H] <;> iassumption
  icases H with %h
  ipureintro; exact ⟨o, n, ho, h⟩

/-- The program ends with every array of the host's so, and every counter at zero. -/
def QC : PUnit × MemSt nD τ sig (Elt F) → Prop := fun r =>
  (∀ d : Dev nD, ∃ (o : FVec F S7864320 .f32) (n : IVec S128 32), Left m d o n ∧ ∀ b ∈ Pipeline.ucRefs τ sig, r.2.mem (d, b) = V₃ m d o n b) ∧ r.2.sem = fun _ => 0

theorem run_main [∀ e, Nonempty (Elt F e)] (hr : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Value.lean ====
/-
  The arrays of the main program by what the memory held at the start: the kernel's operands before the call, the
  results after it, the arguments untouched, and the onsets' range out of the precondition.
-/
module

public import proofs.«01_k».proof.Proof.Run
public import proofs.«01_k».proof.Proof.Gen.Pre_onset_in_range
public import Idealize.ShloMosaic.Lib.Pointwise
public import Idealize.ShloMosaic.Lib.ReduceAll
public import Idealize.ShloMosaic.Lib.Tactic.CleanTypes

@[expose] public section

set_option maxRecDepth 16384

noncomputable section

namespace Cert.Proof.Value

open Cert.KernelIdeal Cert.KernelIdeal.Gen Idealize.ShloMosaic Idealize.ShloMosaic.TcCoe
open Idealize.ShloMosaic.StableHlo
open Cert.Proof.Pay Cert.Proof.Tile Cert.Proof.Launch Cert.Proof.Run

variable {F : FTy → Type} [FloatOps F]
variable (m : (ℓ : Loc nD τ sig) → Buf (Elt F) ℓ) (d : Dev nD)

/-! ## Before the call -/

/-- The three arguments as arrays. -/
def eeg : FVec F S128x22x12000 .f32 := m (d.tc.loc main_arg0)
def on : FVec F S128 .f32 := m (d.tc.loc main_arg1)
def ws : FVec F S128 .f32 := m (d.tc.loc main_arg2)

theorem fx_eq : fx m d = shapeCast _ (extractStridedSlice S128x22x1416 ![0, 0, 0] (eeg m d) slices_S128x22x12000_S128x22x1416_0_0_0) shapeCasts_S128x22x1416_S3987456 := by
  unfold fx V₁ before
  after_results_simp
  rfl

theorem fon_eq : fon m d = on m d := by
  unfold fon V₁ before
  after_results_simp
  rfl

theorem fws_eq : fws m d = ws m d := by
  unfold fws V₁ before
  after_results_simp
  rfl

theorem ons_eq : ons m d = onsets (on m d) (ws m d) := by unfold ons; rw [fon_eq, fws_eq]

/-! ## After it -/

/-- The relative times: of every patch, its distance to the onset in seconds. -/
def times : FVec F S128x20 .f32 :=
  broadcastInDim S128x20 ![0, 1] bcast_S1x20_S128x20_0_1 (broadcastInDim S1x20 ![1] bcast_S20_S1x20_1 (Host.divf (sitofp .f32 (muli (addi (broadcastInDim S20 ![] bcast_S_S20 (constantI S_ 32 4294967288#32)) (iotaInDim S20 32 0)) (broadcastInDim S20 ![] bcast_S_S20 (constantI S_ 32 100#32)))) (broadcastInDim S20 ![] bcast_S_S20 (constant S_ .f32 0x43480000#32))))

variable (o : FVec F S7864320 .f32) (n : IVec S128 32)

theorem patches_eq : V₃ m d o n (Proc.devRef .tc (main_v4 : Ref sig .tc))
    = extractStridedSlice S128x20x22x100 ![0, 0, 0, 0] (shapeCast S128x20x24x128 o shapeCasts_S7864320_S128x20x24x128) slices_S128x20x24x128_S128x20x22x100_0_0_0_0 := by
  unfold V₃ behind V₂
  after_results_simp
  rfl

theorem count_eq : V₃ m d o n nR = n := by
  unfold V₃ behind V₂
  after_results_simp
  rfl

theorem times_eq : V₃ m d o n (Proc.devRef .tc (main_v14 : Ref sig .tc)) = times := by
  unfold V₃ behind V₂
  after_results_simp
  rfl

theorem arg0_eq : V₃ m d o n (Proc.devRef .tc (main_arg0 : Ref sig .tc)) = m (d.tc.loc main_arg0) := by
  unfold V₃ behind V₂ V₁ before
  after_results_simp
  rfl

theorem arg1_eq : V₃ m d o n (Proc.devRef .tc (main_arg1 : Ref sig .tc)) = m (d.tc.loc main_arg1) := by
  unfold V₃ behind V₂ V₁ before
  after_results_simp
  rfl

theorem arg2_eq : V₃ m d o n (Proc.devRef .tc (main_arg2 : Ref sig .tc)) = m (d.tc.loc main_arg2) := by
  unfold V₃ behind V₂ V₁ before
  after_results_simp
  rfl

/-! ## The precondition -/

theorem both {a b : BitVec 1} (h : IntOp.andi a b = 1#1) : a = 1#1 ∧ b = 1#1 := by revert a b; decide

/-- The onsets lie in the range the precondition asks of the arguments. -/
theorem range_of_pre (x : FVec F S128x22x12000 .f32) (a b : FVec F S128 .f32) (h : Cert.Pre_onset_in_range.fn x a b = fun _ => 1#1) (i : Nat) (hi : i < 128) :
    -200 < (wordAt (onsets a b) i).toInt ∧ (wordAt (onsets a b) i).toInt < 200 := by
  have h' := Host.reduce_andi_all _ _ _ _ _ (congrFun h ix0) (pt i hi)
  have hw : wordAt (onsets a b) i = onsets a b (pt i hi) := by unfold wordAt; rw [dif_pos hi]
  rw [hw]
  have h2 := both h'
  exact ⟨IntOp.cmpi_sgt.1 (show IntOp.cmpi .sgt (onsets a b (pt i hi)) 4294967096#32 = 1#1 from h2.1), IntOp.cmpi_slt.1 (show IntOp.cmpi .slt (onsets a b (pt i hi)) 200#32 = 1#1 from h2.2)⟩

theorem inRange (h : ∀ d : Dev nD, Cert.Pre_onset_in_range.fn (eeg m d) (on m d) (ws m d) = fun _ => 1#1) : InRange m := by
  intro d b hb
  rw [ons_eq]
  exact range_of_pre _ _ _ (h d) b hb

/-! ## The patches and the counts -/

variable {m d o n}

theorem signal_at (b : Fin 128) (c : Fin 22) (k : Nat) (hk : k < 1416) : rd (fx m d) (b.val * 31152 + c.val * 1416 + k) = eeg m d (ix3 b c ⟨k, by omega⟩) := by
  have h : b.val * 31152 + c.val * 1416 + k < 3987456 := by omega
  unfold rd
  rw [dif_pos h, fx_eq, ← pt_eq h (ix1 ⟨b.val * 31152 + c.val * 1416 + k, h⟩ : S3987456.Idx) rfl]
  pointwise
  congr 2 <;> refine Fin.ext ?_
  · show (b.val * 31152 + c.val * 1416 + k) / 31152 = b.val; omega
  · show (b.val * 31152 + c.val * 1416 + k) / 1416 % 22 = c.val; omega
  · show (b.val * 31152 + c.val * 1416 + k) % 1416 = k; omega

theorem patch_at (ho : ∀ y, Good (fx m d) (ons m d) (y 0).val (o y)) (b : Fin 128) (p : Fin 20) (c : Fin 22) (s : Fin 100) :
    extractStridedSlice S128x20x22x100 ![0, 0, 0, 0] (shapeCast S128x20x24x128 o shapeCasts_S7864320_S128x20x24x128) slices_S128x20x24x128_S128x20x22x100_0_0_0_0 (ix4 b p c s)
      = out (fx m d) (wordAt (ons m d) b) b (p.val * 3072 + c.val * 128 + s.val) := by
  pointwise
  have h := ho (ix1 ⟨b.val * 61440 + p.val * 3072 + c.val * 128 + s.val, by omega⟩)
  unfold Good LGood at h
  replace h := h (show (b.val * 61440 + p.val * 3072 + c.val * 128 + s.val) % 61440 % 128 < 100 by omega) (show (b.val * 61440 + p.val * 3072 + c.val * 128 + s.val) % 61440 / 128 % 24 < 22 by omega)
  rw [show ((ix1 (⟨b.val * 61440 + p.val * 3072 + c.val * 128 + s.val, by omega⟩ : Fin 7864320) : S7864320.Idx) 0).val = b.val * 61440 + p.val * 3072 + c.val * 128 + s.val from rfl,
    show (b.val * 61440 + p.val * 3072 + c.val * 128 + s.val) / 61440 = b.val by omega, show (b.val * 61440 + p.val * 3072 + c.val * 128 + s.val) % 61440 = p.val * 3072 + c.val * 128 + s.val by omega] at h
  rw [h]

/-- One sample of the patches, from the signal. -/
theorem out_at (b : Fin 128) (p : Fin 20) (c : Fin 22) (s : Fin 100) {v : BitVec 32} (h1 : v.toInt < 200) :
    out (fx m d) v b (p.val * 3072 + c.val * 128 + s.val)
      = if h : 0 ≤ startAt v p.val then eeg m d (ix3 b c ⟨(startAt v p.val).toNat + s.val, by unfold startAt at h ⊢; omega⟩) else zero := by
  unfold out
  rw [show (p.val * 3072 + c.val * 128 + s.val) / 3072 = p.val by omega, show (p.val * 3072 + c.val * 128 + s.val) / 128 % 24 = c.val by omega,
    show (p.val * 3072 + c.val * 128 + s.val) % 128 = s.val by omega]
  by_cases h : 0 ≤ startAt v p.val
  · rw [if_pos h, dif_pos h, Nat.add_assoc _ (startAt v p.val).toNat]
    exact signal_at b c _ (by unfold startAt; omega)
  · rw [if_neg h, dif_neg h]

end Cert.Proof.Value

end
-- ==== Proof.Ref.lean ====
/-
  The reference's results, element by element, over the extended reals: a patch's sample is the signal's where the
  patch starts inside it and zero elsewhere, and a batch's count is the sum of its patches' bits.
-/
module

public import proofs.«01_k».proof.Proof.Pay
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Ref

open Cert.ReferenceIdeal Cert.ReferenceIdeal.Gen Idealize.ShloMosaic Idealize.ShloMosaic.TcCoe
open Cert.Proof.Pay (startAt countTo bit)

/-! ## The gather along the samples -/

/-- The gather read at an index: batch and channel kept, the sample read signed and clamped. -/
theorem gather_along (x : FVec Ideal S128x22x12000 .f32) (idx : IVec S128x22x2000x1 32) (b : Fin 128) (ch : Fin 22) (k : Fin 2000) :
    Host.gather gather_S128x22x12000_S128x22x2000x1_S128x22x2000_n_2_01_01_2_3_111 x idx (ix3 b ch k)
      = x (ix3 b ch ⟨min (idx (ix4 b ch k 0)).toInt.toNat 11999, by omega⟩) := by
  generalize hG : gather_S128x22x12000_S128x22x2000x1_S128x22x2000_n_2_01_01_2_3_111 = G
  have hob : G.operandBatchingDims = [0, 1] := by rw [← hG]; rfl
  have hcs : G.collapsedSliceDims = [2] := by rw [← hG]; rfl
  unfold Host.gather
  congr 1
  funext a
  refine Fin.ext ?_
  show G.start (ix3 b ch k) idx a + G.batchCoord (ix3 b ch k) a + G.offCoord (ix3 b ch k) a = _
  rw [G.offCoord_eq_zero _ _ (fun h => by
    have := (G.mem_sKept _).mp h
    rw [hob, hcs] at this
    fin_cases a <;> simp at this), Nat.add_zero]
  have ha : a = 0 ∨ a = 1 ∨ a = 2 := by fin_cases a <;> simp
  obtain rfl | rfl | rfl := ha
  · rw [G.start_batching _ _ _ (by rw [hob]; simp), Nat.zero_add]
    subst hG; rfl
  · rw [G.start_batching _ _ _ (by rw [hob]; simp), Nat.zero_add]
    subst hG; rfl
  · rw [G.batchCoord_eq_zero _ _ (by rw [hob]; simp), Nat.add_zero]
    subst hG
    unfold GatherDims.start
    rw [dif_pos (show (2 : Fin 3) ∈ gather_S128x22x12000_S128x22x2000x1_S128x22x2000_n_2_01_01_2_3_111.startIndexMap from List.mem_singleton.mpr rfl)]
    refine congrArg (fun w : BitVec 32 => min w.toInt.toNat 11999) (congrArg idx ?_)
    funext e; refine Fin.ext ?_
    match e with
    | ⟨0, _⟩ => rfl
    | ⟨1, _⟩ => rfl
    | ⟨2, _⟩ => rfl
    | ⟨3, _⟩ => rfl

/-! ## The start words -/

variable {v : BitVec 32}

/-- The start of patch `p`. -/
def word (v : BitVec 32) (p : Nat) : BitVec 32 := IntOp.addi v (IntOp.muli (IntOp.addi 4294967288#32 (BitVec.ofNat 32 p)) 100#32)

theorem isInt_toInt {x : BitVec 32} {e : Int} (h : Affine.IsInt x e) : x.toInt = e := by unfold Affine.IsInt at h; exact h

theorem word_isInt (h0 : -200 < v.toInt) (h1 : v.toInt < 200) (p : Nat) (hp : p < 20) : Affine.IsInt (word v p) (startAt v p) := by
  have h8 : Affine.IsInt 4294967288#32 (-8 : Int) := Affine.ofNat_neg 4294967288 ⟨by norm_num, by norm_num, by norm_num⟩
  have h100 : Affine.IsInt 100#32 (100 : Int) := Affine.ofNat 100 ⟨rfl, by omega⟩
  have hpw : Affine.IsInt (BitVec.ofNat 32 p) (p : Int) := Affine.ofNat p ⟨rfl, by omega⟩
  exact Affine.addi (Affine.word v) (Affine.muli (Affine.addi h8 hpw (e := (p : Int) - 8) (by omega)) h100 (e := ((p : Int) - 8) * 100) (by omega))
    (e := startAt v p) (by show startAt v p = v.toInt + ((p : Int) - 8) * 100 ∧ _; unfold startAt; omega)

/-- The sample a patch reads: its start brought into the signal, and its column. -/
def sample (v : BitVec 32) (p s : Nat) : BitVec 32 := IntOp.addi (IntOp.minsi 11900#32 (IntOp.maxsi 0#32 (word v p))) (BitVec.ofNat 32 s)

theorem sample_toInt (h0 : -200 < v.toInt) (h1 : v.toInt < 200) (p s : Nat) (hp : p < 20) (hs : s < 100) :
    (sample v p s).toInt = max 0 (startAt v p) + s := by
  have hb : startAt v p < 1400 := by unfold startAt; omega
  have hz : Affine.IsInt 0#32 (0 : Int) := Affine.ofNat 0 ⟨rfl, by omega⟩
  have hm : Affine.IsInt 11900#32 (11900 : Int) := Affine.ofNat 11900 ⟨rfl, by omega⟩
  have hsw : Affine.IsInt (BitVec.ofNat 32 s) (s : Int) := Affine.ofNat s ⟨rfl, by omega⟩
  exact isInt_toInt (Affine.addi (Affine.minsi hm (Affine.maxsi hz (word_isInt h0 h1 p hp) (e := max 0 (startAt v p)) rfl) (e := max 0 (startAt v p)) (by omega)) hsw
    (by omega))

theorem sge_iff {w : BitVec 32} : IntOp.cmpi .sge w 0#32 = 1#1 ↔ 0 ≤ w.toInt := by rw [IntOp.cmpi_sge]; rfl

/-- A patch is inside the signal as soon as it starts inside it. -/
theorem valid_iff (h0 : -200 < v.toInt) (h1 : v.toInt < 200) (p : Nat) (hp : p < 20) :
    IntOp.andi (IntOp.cmpi .sge (word v p) 0#32) (IntOp.cmpi .sle (IntOp.addi (word v p) 100#32) 12000#32) = if 0 ≤ startAt v p then 1#1 else 0#1 := by
  have hb : -1000 < startAt v p ∧ startAt v p < 1400 := by unfold startAt; omega
  have hw := word_isInt h0 h1 p hp
  have h100 : Affine.IsInt 100#32 (100 : Int) := Affine.ofNat 100 ⟨rfl, by omega⟩
  have h2 : IntOp.cmpi .sle (IntOp.addi (word v p) 100#32) 12000#32 = 1#1 := by
    rw [IntOp.cmpi_sle, show (IntOp.addi (word v p) 100#32).toInt = startAt v p + 100 from isInt_toInt (Affine.addi hw h100 (e := startAt v p + 100) (by omega))]
    show _ ≤ (12000 : Int); omega
  rw [h2]
  split
  · rename_i h
    rw [(sge_iff (w := word v p)).2 (by rw [isInt_toInt hw]; exact h)]; rfl
  · rename_i h
    rw [show IntOp.cmpi .sge (word v p) 0#32 = 0#1 from (BitVec.eq_zero_or_eq_one _).resolve_right fun hc => h (by rw [← isInt_toInt hw]; exact sge_iff.1 hc)]; rfl

/-! ## The reference's arrays, named -/

/-- The onset samples. -/
def sampled (on ws : FVec Ideal S128 .f32) : IVec S128 32 :=
  fptosi 32 (mulf (subf on ws) (broadcastInDim S128 ![] bcast_S_S128 (constant S_ .f32 0x43480000#32)))

/-- Every patch's start. -/
def starts (v : IVec S128 32) : IVec S128x20 32 :=
  addi (broadcastInDim S128x20 ![0, 1] bcast_S128x1_S128x20_0_1 (broadcastInDim S128x1 ![0] bcast_S128_S128x1_0 v))
    (broadcastInDim S128x20 ![0, 1] bcast_S1x20_S128x20_0_1 (broadcastInDim S1x20 ![1] bcast_S20_S1x20_1
      (muli (addi (broadcastInDim S20 ![] bcast_S_S20 (constantI S_ 32 4294967288#32)) (iotaInDim S20 32 0)) (broadcastInDim S20 ![] bcast_S_S20 (constantI S_ 32 100#32)))))

/-- The sample every element of the patches reads. -/
def samples (w : IVec S128x20 32) : IVec S128x22x2000 32 :=
  shapeCast _ (broadcastInDim S128x22x20x100 ![0, 1, 2, 3] bcast_S128x1x20x100_S128x22x20x100_0_1_2_3 (broadcastInDim S128x1x20x100 ![0, 2, 3] bcast_S128x20x100_S128x1x20x100_0_2_3
    (addi (broadcastInDim S128x20x100 ![0, 1, 2] bcast_S128x20x1_S128x20x100_0_1_2 (broadcastInDim S128x20x1 ![0, 1] bcast_S128x20_S128x20x1_0_1
        (minsi (broadcastInDim S128x20 ![] bcast_S_S128x20 (id (constantI S_ 32 11900#32))) (maxsi (broadcastInDim S128x20 ![] bcast_S_S128x20 (id (constantI S_ 32 0#32))) w))))
      (broadcastInDim S128x20x100 ![0, 1, 2] bcast_S1x1x100_S128x20x100_0_1_2 (broadcastInDim S1x1x100 ![2] bcast_S100_S1x1x100_2 (iotaInDim S100 32 0)))))) shapeCasts_S128x22x20x100_S128x22x2000

/-- The same with the negative ones counted from the end. -/
def turned (k : IVec S128x22x2000 32) : IVec S128x22x2000x1 32 :=
  shapeCast _ (select (cmpi .slt k (broadcastInDim S128x22x2000 ![] bcast_S_S128x22x2000 (constantI S_ 32 0#32)))
    (addi k (broadcastInDim S128x22x2000 ![] bcast_S_S128x22x2000 (constantI S_ 32 12000#32))) k) shapeCasts_S128x22x2000_S128x22x2000x1

/-- Which of the samples lie in the signal. -/
def inside (k : IVec S128x22x2000x1 32) : IVec S128x22x2000 1 :=
  Host.reduce IntOp.andi (andi (cmpi .sge k (broadcastInDim S128x22x2000x1 ![] bcast_S_S128x22x2000x1 (constantI S_ 32 0#32)))
    (cmpi .sle k (broadcastInDim S128x22x2000x1 ![0, 1, 2, 3] bcast_S1x1x1x1_S128x22x2000x1_0_1_2_3 (broadcastInDim S1x1x1x1 ![3] bcast_S1_S1x1x1x1_3 (constantI S1 32 11999#32)))))
    (constantI S_ 1 1#1) reducesTo_S128x22x2000x1_S128x22x2000_d3 h_S_

/-- The signal at the samples that lie in it. -/
def taken (x : FVec Ideal S128x22x12000 .f32) (k : IVec S128x22x2000x1 32) : FVec Ideal S128x22x2000 .f32 :=
  select (inside k) (Host.gather gather_S128x22x12000_S128x22x2000x1_S128x22x2000_n_2_01_01_2_3_111 x k) (broadcastInDim S128x22x2000 ![] bcast_S_S128x22x2000 (constant S_ .f32 0x7FC00000#32))

/-- Which patches lie in the signal. -/
def valid (w : IVec S128x20 32) : IVec S128x20 1 :=
  andi (cmpi .sge w (broadcastInDim S128x20 ![] bcast_S_S128x20 (constantI S_ 32 0#32)))
    (cmpi .sle (addi w (broadcastInDim S128x20 ![] bcast_S_S128x20 (constantI S_ 32 100#32))) (broadcastInDim S128x20 ![] bcast_S_S128x20 (constantI S_ 32 12000#32)))

/-- The patches from the samples read and the patches that count. -/
def masked (t : FVec Ideal S128x22x2000 .f32) (k : IVec S128x20 1) : FVec Ideal S128x20x22x100 .f32 :=
  mulf (transpose S128x20x22x100 [0, 2, 1, 3] (shapeCast _ t shapeCasts_S128x22x2000_S128x22x20x100) transposes_S128x22x20x100_S128x20x22x100_0_2_1_3)
    (broadcastInDim S128x20x22x100 ![0, 1, 2, 3] bcast_S128x20x1x1_S128x20x22x100_0_1_2_3 (uitofp .f32 (broadcastInDim S128x20x1x1 ![0, 1] bcast_S128x20_S128x20x1x1_0_1 k)))

/-- The patches, by the named arrays. -/
def patches (x : FVec Ideal S128x22x12000 .f32) (on ws : FVec Ideal S128 .f32) : FVec Ideal S128x20x22x100 .f32 :=
  masked (taken x (turned (samples (starts (sampled on ws))))) (valid (starts (sampled on ws)))

theorem res_eq (m : (ℓ : Loc nD τ sig) → Buf (Elt Ideal) ℓ) (c : Dev nD) :
    Value.res_main_v40 m c = patches (m (c.tc.loc main_arg0)) (m (c.tc.loc main_arg1)) (m (c.tc.loc main_arg2)) := by
  unfold Value.res_main_v40 patches masked taken inside turned samples valid starts sampled
  rfl

/-! ## The named arrays at an index -/

theorem starts_at (v : IVec S128 32) (b : Fin 128) (p : Fin 20) : starts v (ix2 b p) = word (v (ix1 b)) p.val := by
  unfold starts word
  pointwise

theorem samples_at (w : IVec S128x20 32) (b : Fin 128) (ch : Fin 22) (p : Fin 20) (s : Fin 100) :
    samples w (ix3 b ch ⟨p.val * 100 + s.val, by omega⟩) = IntOp.addi (IntOp.minsi 11900#32 (IntOp.maxsi 0#32 (w (ix2 b p)))) (BitVec.ofNat 32 s.val) := by
  unfold samples
  pointwise
  rfl

theorem turned_at (k : IVec S128x22x2000 32) (b : Fin 128) (ch : Fin 22) (j : Fin 2000) (h : 0 ≤ (k (ix3 b ch j)).toInt) :
    turned k (ix4 b ch j 0) = k (ix3 b ch j) := by
  unfold turned
  pointwise
  rw [show IntOp.cmpi .slt (k (ix3 b ch j)) 0#32 = 0#1 from (BitVec.eq_zero_or_eq_one _).resolve_right fun hc => absurd (IntOp.cmpi_slt.1 hc) (by show ¬ _ < (0 : Int); omega)]
  rfl

theorem inside_at (k : IVec S128x22x2000x1 32) (b : Fin 128) (ch : Fin 22) (j : Fin 2000) (h : 0 ≤ (k (ix4 b ch j 0)).toInt) (h' : (k (ix4 b ch j 0)).toInt ≤ 11999) :
    inside k (ix3 b ch j) = 1#1 := by
  unfold inside
  pointwise
  rw [show (Finset.univ : Finset (Fin 1)) = {0} from rfl, Finset.fold_singleton, sge_iff.2 h, IntOp.cmpi_sle.2 (show _ ≤ (11999 : Int) from h')]
  rfl

theorem taken_at (x : FVec Ideal S128x22x12000 .f32) (k : IVec S128x22x2000x1 32) (b : Fin 128) (ch : Fin 22) (j : Fin 2000) (h : 0 ≤ (k (ix4 b ch j 0)).toInt)
    (h' : (k (ix4 b ch j 0)).toInt ≤ 11999) : taken x k (ix3 b ch j) = x (ix3 b ch ⟨(k (ix4 b ch j 0)).toInt.toNat, by omega⟩) := by
  unfold taken
  rw [show ∀ (a : IVec S128x22x2000 1) (u w : FVec Ideal S128x22x2000 .f32) y, select a u w y = Scalar.select (a y) (u y) (w y) from fun _ _ _ _ => rfl, inside_at k b ch j h h',
    gather_along]
  exact congrArg x (congrArg (ix3 b ch) (Fin.ext (Nat.min_eq_left (by omega))))

theorem valid_at (w : IVec S128x20 32) (b : Fin 128) (p : Fin 20) :
    valid w (ix2 b p) = IntOp.andi (IntOp.cmpi .sge (w (ix2 b p)) 0#32) (IntOp.cmpi .sle (IntOp.addi (w (ix2 b p)) 100#32) 12000#32) := by
  unfold valid
  pointwise

theorem masked_at (t : FVec Ideal S128x22x2000 .f32) (k : IVec S128x20 1) (b : Fin 128) (p : Fin 20) (ch : Fin 22) (s : Fin 100) :
    masked t k (ix4 b p ch s) = FloatOps.mulf (F := Ideal) (φ := .f32) (t (ix3 b ch ⟨p.val * 100 + s.val, by omega⟩)) (FloatOps.uitofp .f32 (k (ix2 b p))) := by
  unfold masked
  pointwise

/-! ## The results at an index -/

/-- One sample of the patches: the signal's where the patch starts inside it, zero elsewhere. -/
theorem patches_at (x : FVec Ideal S128x22x12000 .f32) (on ws : FVec Ideal S128 .f32) (b : Fin 128) (p : Fin 20) (ch : Fin 22) (s : Fin 100) (hv : sampled on ws (ix1 b) = v)
    (h0 : -200 < v.toInt) (h1 : v.toInt < 200) :
    patches x on ws (ix4 b p ch s) = if h : 0 ≤ startAt v p.val then x (ix3 b ch ⟨(startAt v p.val).toNat + s.val, by unfold startAt at h ⊢; omega⟩) else (0 : EReal) := by
  have hb : -1000 < startAt v p.val ∧ startAt v p.val < 1400 := by unfold startAt; omega
  have hk : samples (starts (sampled on ws)) (ix3 b ch ⟨p.val * 100 + s.val, by omega⟩) = sample v p.val s.val := by rw [samples_at, starts_at, hv]; rfl
  have hs := sample_toInt h0 h1 p.val s.val p.isLt s.isLt
  have ht := turned_at (samples (starts (sampled on ws))) b ch ⟨p.val * 100 + s.val, by omega⟩ (by rw [hk, hs]; omega)
  rw [hk] at ht
  unfold patches
  rw [masked_at, valid_at, starts_at, hv, valid_iff h0 h1 p.val p.isLt, taken_at _ _ _ _ _ (by rw [ht, hs]; omega) (by rw [ht, hs]; omega)]
  by_cases h : 0 ≤ startAt v p.val
  · rw [if_pos h, dif_pos h]
    refine (show FloatOps.mulf (F := Ideal) (φ := .f32) _ (FloatOps.uitofp .f32 1#1) = _ * ((1#1 : BitVec 1).toNat : ℝ) from rfl).trans ?_
    rw [show ((((1#1 : BitVec 1).toNat : ℝ)) : EReal) = 1 by simp, mul_one]
    refine congrArg x (congrArg (ix3 b ch) (Fin.ext ?_))
    show (turned _ _).toInt.toNat = _
    rw [ht, hs]; show _ = (startAt v p.val).toNat + s.val; omega
  · rw [if_neg h, dif_neg h]
    refine (show FloatOps.mulf (F := Ideal) (φ := .f32) _ (FloatOps.uitofp .f32 0#1) = _ * ((0#1 : BitVec 1).toNat : ℝ) from rfl).trans ?_
    rw [show ((((0#1 : BitVec 1).toNat : ℝ)) : EReal) = 0 by simp, mul_zero]

/-- A patch's bit, as the tiles count it, is one where the patch starts inside the signal. -/
theorem bit_eq (h0 : -200 < v.toInt) (h1 : v.toInt < 200) (p : Nat) (hp : p < 20) : bit v p = if 0 ≤ startAt v p then 1#32 else 0#32 := by
  have hb : -1000 < startAt v p ∧ startAt v p < 1400 := by unfold startAt; omega
  have hw := isInt_toInt (word_isInt h0 h1 p hp)
  have he : IntOp.addi v (BitVec.ofInt 32 (((p : Int) - 8) * 100)) = word v p := by
    refine congrArg (IntOp.addi v) ?_
    interval_cases p <;> rfl
  unfold bit
  rw [he, IntOp.cmpi_sle.2 (show (word v p).toInt ≤ (11900 : Int) by omega)]
  split
  · rename_i h
    rw [sge_iff.2 (show 0 ≤ (word v p).toInt by omega)]; rfl
  · rename_i h
    rw [show IntOp.cmpi .sge (word v p) 0#32 = 0#1 from (BitVec.eq_zero_or_eq_one _).resolve_right fun hc => h (by rw [← hw]; exact sge_iff.1 hc)]; rfl

/-- Adding up the bits of the first patches. -/
theorem fold_bits (n : Nat) : (Finset.univ : Finset (Fin n)).fold IntOp.addi 0#32 (fun p => bit v p.val) = countTo v n := by
  induction n with
  | zero => rfl
  | succ n ih =>
    rw [Fin.univ_castSuccEmb, Finset.fold_cons, Finset.fold_map]
    show IntOp.addi (bit v n) (Finset.univ.fold IntOp.addi 0#32 fun p : Fin n => bit v p.val) = IntOp.addi (countTo v n) (bit v n)
    rw [ih]; exact BitVec.add_comm _ _

/-- The reference's counts. -/
def counts (on ws : FVec Ideal S128 .f32) : IVec S128 32 :=
  Host.reduce IntOp.addi (extui 32 (valid (starts (sampled on ws))) natLt_1_32) (constantI S_ 32 0#32) reducesTo_S128x20_S128_d1 h_S_

/-- The patches from equal arguments. -/
theorem patches_congr {x x' : FVec Ideal S128x22x12000 .f32} {a a' b b' : FVec Ideal S128 .f32} (hx : x = x') (ha : a = a') (hb : b = b') : patches x a b = patches x' a' b' := by
  rw [hx, ha, hb]

/-- The counts from equal arguments. -/
theorem counts_congr {a a' b b' : FVec Ideal S128 .f32} (ha : a = a') (hb : b = b') : counts a b = counts a' b' := by rw [ha, hb]

/-- A batch's count: its patches that lie in the signal. -/
theorem counts_at (on ws : FVec Ideal S128 .f32) (b : Fin 128) (hv : sampled on ws (ix1 b) = v) (h0 : -200 < v.toInt) (h1 : v.toInt < 200) :
    counts on ws (ix1 b) = countTo v 20 := by
  unfold counts
  pointwise
  rw [← fold_bits]
  refine Finset.fold_congr fun p _ => ?_
  rw [valid_at, starts_at, hv, valid_iff h0 h1 p.val p.isLt, bit_eq h0 h1 p.val p.isLt]
  split <;> rfl

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.ReferenceIdeal
public import proofs.«01_k».proof.Proof.Gen.Pre_onset_in_range
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem
open Cert.Proof.Pay Cert.Proof.Launch Cert.Proof.Run

/-! ## The kernel's run, read at the buffers the claims speak of -/

section Kernel

open Cert.KernelIdeal Cert.KernelIdeal.Gen

variable {F : FTy → Type} [FloatOps F] {m : (ℓ : Loc nD τ sig) → Buf (Elt F) ℓ}

/-- The arguments at the end. -/
theorem args_end {r : PUnit × MemSt nD τ sig (Elt F)} (h : QC m r) (c : Dev nD) :
    r.2.mem (c.tc.loc main_arg0) = m (c.tc.loc main_arg0) ∧ r.2.mem (c.tc.loc main_arg1) = m (c.tc.loc main_arg1) ∧ r.2.mem (c.tc.loc main_arg2) = m (c.tc.loc main_arg2) := by
  obtain ⟨o, n, -, hb⟩ := h.1 c
  exact ⟨(hb (Proc.devRef .tc (main_arg0 : Ref sig .tc)) (Finset.mem_filter.mpr ⟨StableHlo.devRef_mem_tcRefs _, by decide⟩)).trans (Value.arg0_eq m c o n),
    (hb (Proc.devRef .tc (main_arg1 : Ref sig .tc)) (Finset.mem_filter.mpr ⟨StableHlo.devRef_mem_tcRefs _, by decide⟩)).trans (Value.arg1_eq m c o n),
    (hb (Proc.devRef .tc (main_arg2 : Ref sig .tc)) (Finset.mem_filter.mpr ⟨StableHlo.devRef_mem_tcRefs _, by decide⟩)).trans (Value.arg2_eq m c o n)⟩

end Kernel

/-! ## The frames -/

/-- The kernel's frame: its program has the idealized one's text. -/
theorem frame_kernel : Cert.quiescent_Kernel := fun m ρ h =>
  (θ_run Cert.KernelIdeal.defs _ _).mono (fun _ hq => ⟨args_end hq, hq.2⟩) (run_main (F := Bits) m ρ (Value.inRange m h))

/-- The idealized kernel's frame. -/
theorem frame_ideal : Cert.quiescent_KernelIdeal := fun m ρ h =>
  (θ_run Cert.KernelIdeal.defs _ _).mono (fun _ hq => ⟨args_end hq, hq.2⟩) (run_main (F := Ideal) m ρ (Value.inRange m h))

/-- The reference leaves its arguments and every counter as they were. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run (F := Ideal) m ρ)

/-- So it does, in particular, where the precondition holds. -/
theorem frame_reference_pre : Cert.quiescent_ReferenceIdeal_pre_onset_in_range := fun m ρ _ => frame_reference m ρ (by trivial)

/-! ## The results -/

section Results

open Cert.KernelIdeal Cert.KernelIdeal.Gen

variable {m : (ℓ : Loc nD τ sig) → Buf (Elt Ideal) ℓ}

/-- A batch's onset, by the reference and by the kernel. -/
theorem onset_eq (c : Dev nD) (b : Fin 128) : Ref.sampled (Value.on m c) (Value.ws m c) (ix1 b) = wordAt (ons m c) b.val := by
  rw [Value.ons_eq]
  exact wordAt_idx (onsets (Value.on m c) (Value.ws m c)) (ix1 b)

/-- The kernel's patches are the reference's. -/
theorem patches_end {r : PUnit × MemSt nD τ sig (Elt Ideal)} (hr : InRange m) (h : QC m r) (c : Dev nD) :
    r.2.mem (c.tc.loc main_v4) = Ref.patches (Value.eeg m c) (Value.on m c) (Value.ws m c) := by
  obtain ⟨o, n, hl, hb⟩ := h.1 c
  refine ((hb (Proc.devRef .tc (main_v4 : Ref sig .tc)) (Finset.mem_filter.mpr ⟨StableHlo.devRef_mem_tcRefs _, by decide⟩)).trans (Value.patches_eq m c o n)).trans ?_
  funext (y : S128x20x22x100.Idx)
  idx_vars y
  have hv := hr c y0.val y0.isLt
  rw [Value.patch_at hl.1, Value.out_at y0 y1 y2 y3 hv.2]
  refine Eq.trans ?_ (Ref.patches_at _ _ _ y0 y1 y2 y3 (onset_eq c y0) hv.1 hv.2).symm
  rw [show (zero : Ideal .f32) = (0 : EReal) from Ideal.ofBits_zero_f32]

/-- Its counts too. -/
theorem counts_end {r : PUnit × MemSt nD τ sig (Elt Ideal)} (hr : InRange m) (h : QC m r) (c : Dev nD) :
    r.2.mem (c.tc.loc main_v2_1) = Ref.counts (Value.on m c) (Value.ws m c) := by
  obtain ⟨o, n, hl, hb⟩ := h.1 c
  refine ((hb nR (Finset.mem_filter.mpr ⟨StableHlo.devRef_mem_tcRefs _, by decide⟩)).trans (Value.count_eq m c o n)).trans ?_
  funext (y : S128.Idx)
  idx_vars y
  have hv := hr c y0.val y0.isLt
  exact (hl.2 (ix1 y0)).trans (Ref.counts_at _ _ y0 (onset_eq c y0) hv.1 hv.2).symm

/-- The relative times at the end. -/
theorem times_end {r : PUnit × MemSt nD τ sig (Elt Ideal)} (h : QC m r) (c : Dev nD) :
    r.2.mem (c.tc.loc main_v14) = Value.times (F := Ideal) := by
  obtain ⟨o, n, hl, hb⟩ := h.1 c
  exact (hb (Proc.devRef .tc (main_v14 : Ref sig .tc)) (Finset.mem_filter.mpr ⟨StableHlo.devRef_mem_tcRefs _, by decide⟩)).trans (Value.times_eq m c o n)

end Results

/-- From equal arguments the idealized kernel and the reference end with the same patches, counts and relative times. -/
theorem equal_results : Cert.algebraic_KernelIdeal_ReferenceIdeal := by
  intro m ρ m' ρ' hpre hargs
  have hr := Value.inRange m hpre
  refine ⟨fun c => Ref.patches (Value.eeg m c) (Value.on m c) (Value.ws m c), fun c => Ref.counts (Value.on m c) (Value.ws m c), fun _ => Value.times (F := Ideal), ?_, ?_⟩
  · exact (θ_run Cert.KernelIdeal.defs _ _).mono (fun _ hq c => ⟨patches_end hr hq c, counts_end hr hq c, times_end hq c, args_end hq c⟩) (run_main (F := Ideal) m ρ hr)
  · refine (θ_run Cert.ReferenceIdeal.defs _ _).mono (fun r h c => ⟨((h c).1.trans (Ref.res_eq m' c)).trans ?_, (h c).2.1.trans ?_, (h c).2.2.1.trans ?_, (h c).2.2.2⟩)
      (Cert.ReferenceIdeal.Value.run (F := Ideal) m' ρ')
    · exact Ref.patches_congr (hargs c).1 (hargs c).2.1 (hargs c).2.2
    · exact Ref.counts_congr (hargs c).2.1 (hargs c).2.2
    · rfl

theorem claim : Cert.Claim := ⟨Cert.Kernel.Gen.facts, Cert.KernelIdeal.Gen.facts, Cert.ReferenceIdeal.Gen.facts, Cert.Pre_onset_in_range.Gen.facts,
  frame_kernel, frame_ideal, frame_reference, frame_reference_pre, trivial, equal_results⟩

end Cert.Proof

end
